-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v55)) (v3 : (c : Dev Cert.KernelIdeal.nD) → Buf (Elt Ideal) ((c.tc : Thread Cert.KernelIdeal.nD Cert.KernelIdeal.τ).loc Cert.KernelIdeal.main_v58)) (v4 : (c : Dev Cert.KernelIdeal.nD) → Buf (Elt Ideal) ((c.tc : Thread Cert.KernelIdeal.nD Cert.KernelIdeal.τ).loc Cert.KernelIdeal.main_v57)) (v5 : (c : Dev Cert.KernelIdeal.nD) → Buf (Elt Ideal) ((c.tc : Thread Cert.KernelIdeal.nD Cert.KernelIdeal.τ).loc Cert.KernelIdeal.main_v60)) (v6 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v55) = v2 c
          ∧ r.2.mem ((c.tc : Thread Cert.KernelIdeal.nD Cert.KernelIdeal.τ).loc Cert.KernelIdeal.main_v58) = v3 c
          ∧ r.2.mem ((c.tc : Thread Cert.KernelIdeal.nD Cert.KernelIdeal.τ).loc Cert.KernelIdeal.main_v57) = v4 c
          ∧ r.2.mem ((c.tc : Thread Cert.KernelIdeal.nD Cert.KernelIdeal.τ).loc Cert.KernelIdeal.main_v60) = v5 c
          ∧ r.2.mem ((c.tc : Thread Cert.KernelIdeal.nD Cert.KernelIdeal.τ).loc Cert.KernelIdeal.main_v31_1) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_v77) = v4 c
          ∧ r.2.mem ((c.tc : Thread Cert.ReferenceIdeal.nD Cert.ReferenceIdeal.τ).loc Cert.ReferenceIdeal.main_v85) = v5 c
          ∧ r.2.mem ((c.tc : Thread Cert.ReferenceIdeal.nD Cert.ReferenceIdeal.τ).loc Cert.ReferenceIdeal.main_v50) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x576x768 : Shape := ⟨3, ![32, 576, 768]⟩
abbrev S32x64 : Shape := ⟨2, ![32, 64]⟩
abbrev S32x256 : Shape := ⟨2, ![32, 256]⟩
abbrev S768 : Shape := ⟨1, ![768]⟩
abbrev S2304x768 : Shape := ⟨2, ![2304, 768]⟩
abbrev S2304 : Shape := ⟨1, ![2304]⟩
abbrev S768x768 : Shape := ⟨2, ![768, 768]⟩
abbrev S3072x768 : Shape := ⟨2, ![3072, 768]⟩
abbrev S3072 : Shape := ⟨1, ![3072]⟩
abbrev S768x3072 : Shape := ⟨2, ![768, 3072]⟩
abbrev S_ : Shape := ⟨0, ![]⟩
abbrev S32x576 : Shape := ⟨2, ![32, 576]⟩
abbrev S32x576x1 : Shape := ⟨3, ![32, 576, 1]⟩
abbrev S1x1x768 : Shape := ⟨3, ![1, 1, 768]⟩
abbrev S768x2304 : Shape := ⟨2, ![768, 2304]⟩
abbrev S32x576x2304 : Shape := ⟨3, ![32, 576, 2304]⟩
abbrev S1x1x2304 : Shape := ⟨3, ![1, 1, 2304]⟩
abbrev S1x768 : Shape := ⟨2, ![1, 768]⟩
abbrev S32x12x576x576 : Shape := ⟨4, ![32, 12, 576, 576]⟩
abbrev S1x288x768 : Shape := ⟨3, ![1, 288, 768]⟩
abbrev S1x576x2304 : Shape := ⟨3, ![1, 576, 2304]⟩
abbrev S1x12x288x576 : Shape := ⟨4, ![1, 12, 288, 576]⟩
abbrev S576x2304 : Shape := ⟨2, ![576, 2304]⟩
abbrev S1x288x2304 : Shape := ⟨3, ![1, 288, 2304]⟩
abbrev S288x2304 : Shape := ⟨2, ![288, 2304]⟩
abbrev S288x64 : Shape := ⟨2, ![288, 64]⟩
abbrev S576x64 : Shape := ⟨2, ![576, 64]⟩
abbrev S288x576 : Shape := ⟨2, ![288, 576]⟩
abbrev S288 : Shape := ⟨1, ![288]⟩
abbrev S288x1 : Shape := ⟨2, ![288, 1]⟩
abbrev S1x1x288x576 : Shape := ⟨4, ![1, 1, 288, 576]⟩
abbrev S288x768 : Shape := ⟨2, ![288, 768]⟩
abbrev S32x12x576 : Shape := ⟨3, ![32, 12, 576]⟩
abbrev S32x12x576x1 : Shape := ⟨4, ![32, 12, 576, 1]⟩
abbrev S32x12x64x576 : Shape := ⟨4, ![32, 12, 64, 576]⟩
abbrev S32x12x64x1 : Shape := ⟨4, ![32, 12, 64, 1]⟩
abbrev S32x12x64x512 : Shape := ⟨4, ![32, 12, 64, 512]⟩
abbrev S32x12x512 : Shape := ⟨3, ![32, 12, 512]⟩
abbrev S32x512 : Shape := ⟨2, ![32, 512]⟩
abbrev S32x180 : Shape := ⟨2, ![32, 180]⟩
abbrev S32x180x1 : Shape := ⟨3, ![32, 180, 1]⟩
abbrev S1 : Shape := ⟨1, ![1]⟩
abbrev S1x1x1 : Shape := ⟨3, ![1, 1, 1]⟩
abbrev S32x76 : Shape := ⟨2, ![32, 76]⟩
abbrev S32x76x1 : Shape := ⟨3, ![32, 76, 1]⟩
abbrev S64 : Shape := ⟨1, ![64]⟩
abbrev S32x424 : Shape := ⟨2, ![32, 424]⟩
abbrev S32x1x512 : Shape := ⟨3, ![32, 1, 512]⟩
abbrev S1x3072 : Shape := ⟨2, ![1, 3072]⟩
abbrev S32x424x768 : Shape := ⟨3, ![32, 424, 768]⟩
abbrev S1x576x768 : Shape := ⟨3, ![1, 576, 768]⟩
abbrev S1x1x512 : Shape := ⟨3, ![1, 1, 512]⟩
abbrev S1x424x768 : Shape := ⟨3, ![1, 424, 768]⟩
abbrev S1x1x424 : Shape := ⟨3, ![1, 1, 424]⟩
abbrev S424 : Shape := ⟨1, ![424]⟩
abbrev S424x1 : Shape := ⟨2, ![424, 1]⟩
abbrev S424x576 : Shape := ⟨2, ![424, 576]⟩
abbrev S576x768 : Shape := ⟨2, ![576, 768]⟩
abbrev S424x768 : Shape := ⟨2, ![424, 768]⟩
abbrev S424x3072 : Shape := ⟨2, ![424, 3072]⟩

abbrev nBuf : Space → Nat
  | .hbm => 200
  | .vmem => 24
  | .smem => 0
  | _ => 0

abbrev hbmTy0_0 (i : Nat) : BufTy := match i % 128 with
  | 0 => ⟨S32x576x768, .f32⟩
  | 1 => ⟨S32x64, .i32⟩
  | 2 => ⟨S32x256, .i32⟩
  | 3 => ⟨S32x256, .i32⟩
  | 4 => ⟨S768, .f32⟩
  | 5 => ⟨S768, .f32⟩
  | 6 => ⟨S2304x768, .f32⟩
  | 7 => ⟨S2304, .f32⟩
  | 8 => ⟨S768x768, .f32⟩
  | 9 => ⟨S768, .f32⟩
  | 10 => ⟨S768, .f32⟩
  | 11 => ⟨S768, .f32⟩
  | 12 => ⟨S3072x768, .f32⟩
  | 13 => ⟨S3072, .f32⟩
  | 14 => ⟨S768x3072, .f32⟩
  | 15 => ⟨S768, .f32⟩
  | 16 => ⟨S_, .f32⟩
  | 17 => ⟨S32x576, .f32⟩
  | 18 => ⟨S32x576x1, .f32⟩
  | 19 => ⟨S_, .f32⟩
  | 20 => ⟨S32x576x1, .f32⟩
  | 21 => ⟨S32x576x1, .f32⟩
  | 22 => ⟨S32x576x768, .f32⟩
  | 23 => ⟨S32x576x768, .f32⟩
  | 24 => ⟨S32x576x768, .f32⟩
  | 25 => ⟨S_, .f32⟩
  | 26 => ⟨S32x576, .f32⟩
  | 27 => ⟨S32x576x1, .f32⟩
  | 28 => ⟨S_, .f32⟩
  | 29 => ⟨S32x576x1, .f32⟩
  | 30 => ⟨S32x576x1, .f32⟩
  | 31 => ⟨S32x576x768, .f32⟩
  | 32 => ⟨S32x576x768, .f32⟩
  | 33 => ⟨S_, .f32⟩
  | 34 => ⟨S32x576x1, .f32⟩
  | 35 => ⟨S32x576x1, .f32⟩
  | 36 => ⟨S32x576x1, .f32⟩
  | 37 => ⟨S32x576x768, .f32⟩
  | 38 => ⟨S32x576x768, .f32⟩
  | 39 => ⟨S1x1x768, .f32⟩
  | 40 => ⟨S32x576x768, .f32⟩
  | 41 => ⟨S32x576x768, .f32⟩
  | 42 => ⟨S1x1x768, .f32⟩
  | 43 => ⟨S32x576x768, .f32⟩
  | 44 => ⟨S32x576x768, .f32⟩
  | 45 => ⟨S768x2304, .f32⟩
  | 46 => ⟨S32x576x2304, .f32⟩
  | 47 => ⟨S1x1x2304, .f32⟩
  | 48 => ⟨S32x576x2304, .f32⟩
  | 49 => ⟨S32x576x2304, .f32⟩
  | 50 => ⟨S768x768, .f32⟩
  | 51 => ⟨S1x768, .f32⟩
  | 52 => ⟨S32x12x576x576, .f32⟩
  | 53 => ⟨S32x12x576x576, .f32⟩
  | 54 => ⟨S32x576x768, .f32⟩
  | 55 => ⟨S_, .f32⟩
  | 56 => ⟨S32x12x576, .f32⟩
  | 57 => ⟨S32x12x576x1, .f32⟩
  | 58 => ⟨S32x12x576x1, .f32⟩
  | 59 => ⟨S32x12x64x576, .f32⟩
  | 60 => ⟨S32x12x64x1, .f32⟩
  | 61 => ⟨S32x12x64x576, .f32⟩
  | 62 => ⟨S32x12x64x576, .f32⟩
  | 63 => ⟨S32x12x64x576, .f32⟩
  | 64 => ⟨S32x12x64x512, .f32⟩
  | 65 => ⟨S_, .f32⟩
  | 66 => ⟨S32x12x512, .f32⟩
  | 67 => ⟨S_, .f32⟩
  | 68 => ⟨S32x12x512, .f32⟩
  | 69 => ⟨S32x12x512, .f32⟩
  | 70 => ⟨S_, .f32⟩
  | 71 => ⟨S32x512, .f32⟩
  | 72 => ⟨S_, .f32⟩
  | 73 => ⟨S32x512, .f32⟩
  | 74 => ⟨S32x512, .f32⟩
  | 75 => ⟨S32x256, .f32⟩
  | 76 => ⟨S32x256, .f32⟩
  | 77 => ⟨S32x256, .f32⟩
  | 78 => ⟨S32x256, .i32⟩
  | 79 => ⟨S32x256, .f32⟩
  | 80 => ⟨S32x256, .i32⟩
  | 81 => ⟨S32x256, .f32⟩
  | 82 => ⟨S32x256, .i32⟩
  | 83 => ⟨S32x256, .f32⟩
  | 84 => ⟨S32x256, .i32⟩
  | 85 => ⟨S32x180, .i32⟩
  | 86 => ⟨S32x180, .i32⟩
  | 87 => ⟨S_, .i32⟩
  | 88 => ⟨S32x180, .i32⟩
  | 89 => ⟨S32x180, .i1⟩
  | 90 => ⟨S_, .i32⟩
  | 91 => ⟨S32x180, .i32⟩
  | 92 => ⟨S32x180, .i32⟩
  | 93 => ⟨S32x180, .i32⟩
  | 94 => ⟨S32x180x1, .i32⟩
  | 95 => ⟨S1, .i32⟩
  | 96 => ⟨S_, .i32⟩
  | 97 => ⟨S32x180x1, .i32⟩
  | 98 => ⟨S32x180x1, .i1⟩
  | 99 => ⟨S1x1x1, .i32⟩
  | 100 => ⟨S32x180x1, .i32⟩
  | 101 => ⟨S32x180x1, .i1⟩
  | 102 => ⟨S32x180x1, .i1⟩
  | 103 => ⟨S_, .i1⟩
  | 104 => ⟨S32x180, .i1⟩
  | 105 => ⟨S32x180, .i32⟩
  | 106 => ⟨S_, .i32⟩
  | 107 => ⟨S32x180, .i32⟩
  | 108 => ⟨S32x180, .i32⟩
  | 109 => ⟨S32x76, .i32⟩
  | 110 => ⟨S_, .i32⟩
  | 111 => ⟨S32x76, .i32⟩
  | 112 => ⟨S32x76, .i1⟩
  | 113 => ⟨S_, .i32⟩
  | 114 => ⟨S32x76, .i32⟩
  | 115 => ⟨S32x76, .i32⟩
  | 116 => ⟨S32x76, .i32⟩
  | 117 => ⟨S32x76x1, .i32⟩
  | 118 => ⟨S1, .i32⟩
  | 119 => ⟨S_, .i32⟩
  | 120 => ⟨S32x76x1, .i32⟩
  | 121 => ⟨S32x76x1, .i1⟩
  | 122 => ⟨S1x1x1, .i32⟩
  | 123 => ⟨S32x76x1, .i32⟩
  | 124 => ⟨S32x76x1, .i1⟩
  | 125 => ⟨S32x76x1, .i1⟩
  | 126 => ⟨S_, .i1⟩
  | 127 => ⟨S32x76, .i1⟩
  | _ => ⟨S32x576x768, .f32⟩

abbrev hbmTy0_1 (i : Nat) : BufTy := match i % 128 with
  | 0 => ⟨S32x76, .i32⟩
  | 1 => ⟨S_, .i32⟩
  | 2 => ⟨S32x76, .i32⟩
  | 3 => ⟨S32x76, .i32⟩
  | 4 => ⟨S_, .i32⟩
  | 5 => ⟨S32x180, .i32⟩
  | 6 => ⟨S32x180, .i1⟩
  | 7 => ⟨S_, .i32⟩
  | 8 => ⟨S32x180, .i32⟩
  | 9 => ⟨S32x180, .i32⟩
  | 10 => ⟨S32x180, .i32⟩
  | 11 => ⟨S32x180x1, .i32⟩
  | 12 => ⟨S1, .i32⟩
  | 13 => ⟨S_, .i32⟩
  | 14 => ⟨S32x180x1, .i32⟩
  | 15 => ⟨S32x180x1, .i1⟩
  | 16 => ⟨S1x1x1, .i32⟩
  | 17 => ⟨S32x180x1, .i32⟩
  | 18 => ⟨S32x180x1, .i1⟩
  | 19 => ⟨S32x180x1, .i1⟩
  | 20 => ⟨S_, .i1⟩
  | 21 => ⟨S32x180, .i1⟩
  | 22 => ⟨S32x180, .i32⟩
  | 23 => ⟨S_, .i32⟩
  | 24 => ⟨S32x180, .i32⟩
  | 25 => ⟨S32x180, .i32⟩
  | 26 => ⟨S32x76, .i32⟩
  | 27 => ⟨S_, .i32⟩
  | 28 => ⟨S32x76, .i32⟩
  | 29 => ⟨S32x76, .i1⟩
  | 30 => ⟨S_, .i32⟩
  | 31 => ⟨S32x76, .i32⟩
  | 32 => ⟨S32x76, .i32⟩
  | 33 => ⟨S32x76, .i32⟩
  | 34 => ⟨S32x76x1, .i32⟩
  | 35 => ⟨S1, .i32⟩
  | 36 => ⟨S_, .i32⟩
  | 37 => ⟨S32x76x1, .i32⟩
  | 38 => ⟨S32x76x1, .i1⟩
  | 39 => ⟨S1x1x1, .i32⟩
  | 40 => ⟨S32x76x1, .i32⟩
  | 41 => ⟨S32x76x1, .i1⟩
  | 42 => ⟨S32x76x1, .i1⟩
  | 43 => ⟨S_, .i1⟩
  | 44 => ⟨S32x76, .i1⟩
  | 45 => ⟨S32x76, .i32⟩
  | 46 => ⟨S_, .i32⟩
  | 47 => ⟨S32x76, .i32⟩
  | 48 => ⟨S32x76, .i32⟩
  | 49 => ⟨S64, .i32⟩
  | 50 => ⟨S32x64, .i32⟩
  | 51 => ⟨S_, .i32⟩
  | 52 => ⟨S32x180, .i32⟩
  | 53 => ⟨S32x180, .i32⟩
  | 54 => ⟨S_, .i32⟩
  | 55 => ⟨S32x180, .i32⟩
  | 56 => ⟨S32x180, .i32⟩
  | 57 => ⟨S_, .i32⟩
  | 58 => ⟨S32x180, .i32⟩
  | 59 => ⟨S32x180, .i32⟩
  | 60 => ⟨S32x424, .i32⟩
  | 61 => ⟨S_, .i32⟩
  | 62 => ⟨S_, .i32⟩
  | 63 => ⟨S32x512, .i32⟩
  | 64 => ⟨S32x1x512, .i32⟩
  | 65 => ⟨S1x768, .f32⟩
  | 66 => ⟨S1x768, .f32⟩
  | 67 => ⟨S768x3072, .f32⟩
  | 68 => ⟨S1x3072, .f32⟩
  | 69 => ⟨S3072x768, .f32⟩
  | 70 => ⟨S1x768, .f32⟩
  | 71 => ⟨S32x424x768, .f32⟩
  | _ => ⟨S32x576x768, .f32⟩

abbrev hbmTy (i : Nat) : BufTy := match i / 128 with
  | 0 => hbmTy0_0 i
  | 1 => hbmTy0_1 i
  | _ => ⟨S32x576x768, .f32⟩

abbrev bufTy : (tb : Table) → Fin (tcTables nBuf tb) → BufTy
  | .hbm, ⟨i, _⟩ => hbmTy i
  | .local _ .vmem, ⟨0, _⟩ => ⟨S1x288x768, .f32⟩
  | .local _ .vmem, ⟨1, _⟩ => ⟨S1x288x768, .f32⟩
  | .local _ .vmem, ⟨2, _⟩ => ⟨S1x576x2304, .f32⟩
  | .local _ .vmem, ⟨3, _⟩ => ⟨S1x576x2304, .f32⟩
  | .local _ .vmem, ⟨4, _⟩ => ⟨S768x768, .f32⟩
  | .local _ .vmem, ⟨5, _⟩ => ⟨S1x768, .f32⟩
  | .local _ .vmem, ⟨6, _⟩ => ⟨S1x12x288x576, .f32⟩
  | .local _ .vmem, ⟨7, _⟩ => ⟨S1x12x288x576, .f32⟩
  | .local _ .vmem, ⟨8, _⟩ => ⟨S1x12x288x576, .f32⟩
  | .local _ .vmem, ⟨9, _⟩ => ⟨S1x12x288x576, .f32⟩
  | .local _ .vmem, ⟨10, _⟩ => ⟨S1x288x768, .f32⟩
  | .local _ .vmem, ⟨11, _⟩ => ⟨S1x288x768, .f32⟩
  | .local _ .vmem, ⟨12, _⟩ => ⟨S1x576x768, .f32⟩
  | .local _ .vmem, ⟨13, _⟩ => ⟨S1x576x768, .f32⟩
  | .local _ .vmem, ⟨14, _⟩ => ⟨S1x1x512, .i32⟩
  | .local _ .vmem, ⟨15, _⟩ => ⟨S1x1x512, .i32⟩
  | .local _ .vmem, ⟨16, _⟩ => ⟨S1x768, .f32⟩
  | .local _ .vmem, ⟨17, _⟩ => ⟨S1x768, .f32⟩
  | .local _ .vmem, ⟨18, _⟩ => ⟨S768x3072, .f32⟩
  | .local _ .vmem, ⟨19, _⟩ => ⟨S1x3072, .f32⟩
  | .local _ .vmem, ⟨20, _⟩ => ⟨S3072x768, .f32⟩
  | .local _ .vmem, ⟨21, _⟩ => ⟨S1x768, .f32⟩
  | .local _ .vmem, ⟨22, _⟩ => ⟨S1x424x768, .f32⟩
  | .local _ .vmem, ⟨23, _⟩ => ⟨S1x424x768, .f32⟩
  | _, _ => ⟨S32x576x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31_0 : Ref sig .tc := ⟨.hbm, 52, rfl⟩
abbrev main_v31_1 : Ref sig .tc := ⟨.hbm, 53, rfl⟩
abbrev main_v31_2 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call0_v0 : Ref sig .tc := ⟨.hbm, 78, rfl⟩
abbrev main_call0_v1_0 : Ref sig .tc := ⟨.hbm, 79, rfl⟩
abbrev main_v50 : Ref sig .tc := ⟨.hbm, 80, rfl⟩
abbrev main_v51 : Ref sig .tc := ⟨.hbm, 81, rfl⟩
abbrev main_call1_v0 : Ref sig .tc := ⟨.hbm, 82, rfl⟩
abbrev main_call1_v1_0 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_c_4 : Ref sig .tc := ⟨.hbm, 106, rfl⟩
abbrev main_call2_v14 : Ref sig .tc := ⟨.hbm, 107, rfl⟩
abbrev main_v55 : Ref sig .tc := ⟨.hbm, 108, rfl⟩
abbrev main_v56 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_c_4 : Ref sig .tc := ⟨.hbm, 129, rfl⟩
abbrev main_call3_v14 : Ref sig .tc := ⟨.hbm, 130, rfl⟩
abbrev main_v57 : Ref sig .tc := ⟨.hbm, 131, rfl⟩
abbrev main_call4_c : Ref sig .tc := ⟨.hbm, 132, rfl⟩
abbrev main_call4_v0 : Ref sig .tc := ⟨.hbm, 133, rfl⟩
abbrev main_call4_v1 : Ref sig .tc := ⟨.hbm, 134, rfl⟩
abbrev main_call4_c_0 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_c_1 : Ref sig .tc := ⟨.hbm, 140, rfl⟩
abbrev main_call4_c_2 : Ref sig .tc := ⟨.hbm, 141, rfl⟩
abbrev main_call4_v6 : Ref sig .tc := ⟨.hbm, 142, rfl⟩
abbrev main_call4_v7 : Ref sig .tc := ⟨.hbm, 143, rfl⟩
abbrev main_call4_v8 : Ref sig .tc := ⟨.hbm, 144, rfl⟩
abbrev main_call4_v9 : Ref sig .tc := ⟨.hbm, 145, rfl⟩
abbrev main_call4_v10 : Ref sig .tc := ⟨.hbm, 146, rfl⟩
abbrev main_call4_v11 : Ref sig .tc := ⟨.hbm, 147, rfl⟩
abbrev main_call4_c_3 : Ref sig .tc := ⟨.hbm, 148, rfl⟩
abbrev main_call4_v12 : Ref sig .tc := ⟨.hbm, 149, rfl⟩
abbrev main_call4_v13 : Ref sig .tc := ⟨.hbm, 150, rfl⟩
abbrev main_call4_c_4 : Ref sig .tc := ⟨.hbm, 151, rfl⟩
abbrev main_call4_v14 : Ref sig .tc := ⟨.hbm, 152, rfl⟩
abbrev main_v58 : Ref sig .tc := ⟨.hbm, 153, rfl⟩
abbrev main_v59 : Ref sig .tc := ⟨.hbm, 154, rfl⟩
abbrev main_call5_c : Ref sig .tc := ⟨.hbm, 155, rfl⟩
abbrev main_call5_v0 : Ref sig .tc := ⟨.hbm, 156, rfl⟩
abbrev main_call5_v1 : Ref sig .tc := ⟨.hbm, 157, rfl⟩
abbrev main_call5_c_0 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_call5_v5 : Ref sig .tc := ⟨.hbm, 162, rfl⟩
abbrev main_call5_c_1 : Ref sig .tc := ⟨.hbm, 163, rfl⟩
abbrev main_call5_c_2 : Ref sig .tc := ⟨.hbm, 164, rfl⟩
abbrev main_call5_v6 : Ref sig .tc := ⟨.hbm, 165, rfl⟩
abbrev main_call5_v7 : Ref sig .tc := ⟨.hbm, 166, rfl⟩
abbrev main_call5_v8 : Ref sig .tc := ⟨.hbm, 167, rfl⟩
abbrev main_call5_v9 : Ref sig .tc := ⟨.hbm, 168, rfl⟩
abbrev main_call5_v10 : Ref sig .tc := ⟨.hbm, 169, rfl⟩
abbrev main_call5_v11 : Ref sig .tc := ⟨.hbm, 170, rfl⟩
abbrev main_call5_c_3 : Ref sig .tc := ⟨.hbm, 171, rfl⟩
abbrev main_call5_v12 : Ref sig .tc := ⟨.hbm, 172, rfl⟩
abbrev main_call5_v13 : Ref sig .tc := ⟨.hbm, 173, rfl⟩
abbrev main_call5_c_4 : Ref sig .tc := ⟨.hbm, 174, rfl⟩
abbrev main_call5_v14 : Ref sig .tc := ⟨.hbm, 175, rfl⟩
abbrev main_v60 : Ref sig .tc := ⟨.hbm, 176, rfl⟩
abbrev main_v61 : Ref sig .tc := ⟨.hbm, 177, rfl⟩
abbrev main_v62 : Ref sig .tc := ⟨.hbm, 178, rfl⟩
abbrev main_c : Ref sig .tc := ⟨.hbm, 179, rfl⟩
abbrev main_v63 : Ref sig .tc := ⟨.hbm, 180, rfl⟩
abbrev main_v64 : Ref sig .tc := ⟨.hbm, 181, rfl⟩
abbrev main_c_9 : Ref sig .tc := ⟨.hbm, 182, rfl⟩
abbrev main_v65 : Ref sig .tc := ⟨.hbm, 183, rfl⟩
abbrev main_v66 : Ref sig .tc := ⟨.hbm, 184, rfl⟩
abbrev main_c_10 : Ref sig .tc := ⟨.hbm, 185, rfl⟩
abbrev main_v67 : Ref sig .tc := ⟨.hbm, 186, rfl⟩
abbrev main_v68 : Ref sig .tc := ⟨.hbm, 187, rfl⟩
abbrev main_v69 : Ref sig .tc := ⟨.hbm, 188, rfl⟩
abbrev main_c_11 : Ref sig .tc := ⟨.hbm, 189, rfl⟩
abbrev main_call6_v0 : Ref sig .tc := ⟨.hbm, 190, rfl⟩
abbrev main_v70 : Ref sig .tc := ⟨.hbm, 191, rfl⟩
abbrev main_v71 : Ref sig .tc := ⟨.hbm, 192, rfl⟩
abbrev main_v72 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨2, ![32, 2], ![false, false]⟩

def k0_off1 (i : grid0.Coords) : Fin 3 → Nat :=
  let c0_2 : Index := 0#32
  let arg1 : BitVec 32 := BitVec.ofNat 32 (i 1).val
  let c288_i32 : BitVec 32 := 288#32
  let v2 : BitVec 32 := Scalar.muli arg1 c288_i32
  let v3 : Index := Scalar.indexCast v2
  let c0_3 : Index := 0#32
  ![0, v3.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x288x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x576x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x12x288x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x12x288x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x288x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x576x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S768x3072 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x3072 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3072x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x424x768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S32x576x768 : Shape := ⟨3, ![32, 576, 768]⟩
abbrev S32x64 : Shape := ⟨2, ![32, 64]⟩
abbrev S32x256 : Shape := ⟨2, ![32, 256]⟩
abbrev S768 : Shape := ⟨1, ![768]⟩
abbrev S2304x768 : Shape := ⟨2, ![2304, 768]⟩
abbrev S2304 : Shape := ⟨1, ![2304]⟩
abbrev S768x768 : Shape := ⟨2, ![768, 768]⟩
abbrev S3072x768 : Shape := ⟨2, ![3072, 768]⟩
abbrev S3072 : Shape := ⟨1, ![3072]⟩
abbrev S768x3072 : Shape := ⟨2, ![768, 3072]⟩
abbrev S_ : Shape := ⟨0, ![]⟩
abbrev S32x576 : Shape := ⟨2, ![32, 576]⟩
abbrev S32x576x1 : Shape := ⟨3, ![32, 576, 1]⟩
abbrev S1x1x768 : Shape := ⟨3, ![1, 1, 768]⟩
abbrev S768x2304 : Shape := ⟨2, ![768, 2304]⟩
abbrev S32x576x2304 : Shape := ⟨3, ![32, 576, 2304]⟩
abbrev S1x1x2304 : Shape := ⟨3, ![1, 1, 2304]⟩
abbrev S32x576x3x12x64 : Shape := ⟨5, ![32, 576, 3, 12, 64]⟩
abbrev S3x32x12x576x64 : Shape := ⟨5, ![3, 32, 12, 576, 64]⟩
abbrev S1x32x12x576x64 : Shape := ⟨5, ![1, 32, 12, 576, 64]⟩
abbrev S32x12x576x64 : Shape := ⟨4, ![32, 12, 576, 64]⟩
abbrev S32x12x576x576 : Shape := ⟨4, ![32, 12, 576, 576]⟩
abbrev S32x12x576 : Shape := ⟨3, ![32, 12, 576]⟩
abbrev S32x12x576x1 : Shape := ⟨4, ![32, 12, 576, 1]⟩
abbrev S32x576x12x64 : Shape := ⟨4, ![32, 576, 12, 64]⟩
abbrev S32x64x768 : Shape := ⟨3, ![32, 64, 768]⟩
abbrev S32x256x768 : Shape := ⟨3, ![32, 256, 768]⟩
abbrev S32x12x64x512 : Shape := ⟨4, ![32, 12, 64, 512]⟩
abbrev S32x12x512 : Shape := ⟨3, ![32, 12, 512]⟩
abbrev S32x512 : Shape := ⟨2, ![32, 512]⟩
abbrev S32x180 : Shape := ⟨2, ![32, 180]⟩
abbrev S32x76 : Shape := ⟨2, ![32, 76]⟩
abbrev S32x180x1 : Shape := ⟨3, ![32, 180, 1]⟩
abbrev S1 : Shape := ⟨1, ![1]⟩
abbrev S1x1x1 : Shape := ⟨3, ![1, 1, 1]⟩
abbrev S32x76x1 : Shape := ⟨3, ![32, 76, 1]⟩
abbrev S32x180x768 : Shape := ⟨3, ![32, 180, 768]⟩
abbrev S32x424x768 : Shape := ⟨3, ![32, 424, 768]⟩
abbrev S32x424 : Shape := ⟨2, ![32, 424]⟩
abbrev S32x424x1 : Shape := ⟨3, ![32, 424, 1]⟩
abbrev S32x424x3072 : Shape := ⟨3, ![32, 424, 3072]⟩
abbrev S1x1x3072 : Shape := ⟨3, ![1, 1, 3072]⟩

abbrev nBuf : Space → Nat
  | .hbm => 297
  | .vmem => 0
  | .smem => 0
  | _ => 0

abbrev hbmTy0_0 (i : Nat) : BufTy := match i % 128 with
  | 0 => ⟨S32x576x768, .f32⟩
  | 1 => ⟨S32x64, .i32⟩
  | 2 => ⟨S32x256, .i32⟩
  | 3 => ⟨S32x256, .i32⟩
  | 4 => ⟨S768, .f32⟩
  | 5 => ⟨S768, .f32⟩
  | 6 => ⟨S2304x768, .f32⟩
  | 7 => ⟨S2304, .f32⟩
  | 8 => ⟨S768x768, .f32⟩
  | 9 => ⟨S768, .f32⟩
  | 10 => ⟨S768, .f32⟩
  | 11 => ⟨S768, .f32⟩
  | 12 => ⟨S3072x768, .f32⟩
  | 13 => ⟨S3072, .f32⟩
  | 14 => ⟨S768x3072, .f32⟩
  | 15 => ⟨S768, .f32⟩
  | 16 => ⟨S_, .f32⟩
  | 17 => ⟨S32x576, .f32⟩
  | 18 => ⟨S32x576x1, .f32⟩
  | 19 => ⟨S_, .f32⟩
  | 20 => ⟨S32x576x1, .f32⟩
  | 21 => ⟨S32x576x1, .f32⟩
  | 22 => ⟨S32x576x768, .f32⟩
  | 23 => ⟨S32x576x768, .f32⟩
  | 24 => ⟨S32x576x768, .f32⟩
  | 25 => ⟨S_, .f32⟩
  | 26 => ⟨S32x576, .f32⟩
  | 27 => ⟨S32x576x1, .f32⟩
  | 28 => ⟨S_, .f32⟩
  | 29 => ⟨S32x576x1, .f32⟩
  | 30 => ⟨S32x576x1, .f32⟩
  | 31 => ⟨S32x576x768, .f32⟩
  | 32 => ⟨S32x576x768, .f32⟩
  | 33 => ⟨S_, .f32⟩
  | 34 => ⟨S32x576x1, .f32⟩
  | 35 => ⟨S32x576x1, .f32⟩
  | 36 => ⟨S32x576x1, .f32⟩
  | 37 => ⟨S32x576x768, .f32⟩
  | 38 => ⟨S32x576x768, .f32⟩
  | 39 => ⟨S1x1x768, .f32⟩
  | 40 => ⟨S32x576x768, .f32⟩
  | 41 => ⟨S32x576x768, .f32⟩
  | 42 => ⟨S1x1x768, .f32⟩
  | 43 => ⟨S32x576x768, .f32⟩
  | 44 => ⟨S32x576x768, .f32⟩
  | 45 => ⟨S768x2304, .f32⟩
  | 46 => ⟨S32x576x2304, .f32⟩
  | 47 => ⟨S1x1x2304, .f32⟩
  | 48 => ⟨S32x576x2304, .f32⟩
  | 49 => ⟨S32x576x2304, .f32⟩
  | 50 => ⟨S32x576x3x12x64, .f32⟩
  | 51 => ⟨S3x32x12x576x64, .f32⟩
  | 52 => ⟨S1x32x12x576x64, .f32⟩
  | 53 => ⟨S32x12x576x64, .f32⟩
  | 54 => ⟨S1x32x12x576x64, .f32⟩
  | 55 => ⟨S32x12x576x64, .f32⟩
  | 56 => ⟨S1x32x12x576x64, .f32⟩
  | 57 => ⟨S32x12x576x64, .f32⟩
  | 58 => ⟨S32x12x576x576, .f32⟩
  | 59 => ⟨S_, .f32⟩
  | 60 => ⟨S32x12x576x576, .f32⟩
  | 61 => ⟨S32x12x576x576, .f32⟩
  | 62 => ⟨S_, .f32⟩
  | 63 => ⟨S32x12x576, .f32⟩
  | 64 => ⟨S_, .f32⟩
  | 65 => ⟨S32x12x576, .f32⟩
  | 66 => ⟨S32x12x576, .f32⟩
  | 67 => ⟨S32x12x576x1, .f32⟩
  | 68 => ⟨S32x12x576x576, .f32⟩
  | 69 => ⟨S32x12x576x576, .f32⟩
  | 70 => ⟨S32x12x576x576, .f32⟩
  | 71 => ⟨S_, .f32⟩
  | 72 => ⟨S32x12x576, .f32⟩
  | 73 => ⟨S32x12x576x1, .f32⟩
  | 74 => ⟨S32x12x576x576, .f32⟩
  | 75 => ⟨S32x12x576x576, .f32⟩
  | 76 => ⟨S32x12x576x64, .f32⟩
  | 77 => ⟨S32x576x12x64, .f32⟩
  | 78 => ⟨S32x576x768, .f32⟩
  | 79 => ⟨S768x768, .f32⟩
  | 80 => ⟨S32x576x768, .f32⟩
  | 81 => ⟨S1x1x768, .f32⟩
  | 82 => ⟨S32x576x768, .f32⟩
  | 83 => ⟨S32x576x768, .f32⟩
  | 84 => ⟨S32x576x768, .f32⟩
  | 85 => ⟨S32x64x768, .f32⟩
  | 86 => ⟨S32x256x768, .f32⟩
  | 87 => ⟨S32x256x768, .f32⟩
  | 88 => ⟨S32x12x64x512, .f32⟩
  | 89 => ⟨S_, .f32⟩
  | 90 => ⟨S32x12x512, .f32⟩
  | 91 => ⟨S_, .f32⟩
  | 92 => ⟨S32x12x512, .f32⟩
  | 93 => ⟨S32x12x512, .f32⟩
  | 94 => ⟨S_, .f32⟩
  | 95 => ⟨S32x512, .f32⟩
  | 96 => ⟨S_, .f32⟩
  | 97 => ⟨S32x512, .f32⟩
  | 98 => ⟨S32x512, .f32⟩
  | 99 => ⟨S32x256, .f32⟩
  | 100 => ⟨S32x256, .f32⟩
  | 101 => ⟨S32x256, .f32⟩
  | 102 => ⟨S32x256, .i32⟩
  | 103 => ⟨S32x256, .f32⟩
  | 104 => ⟨S32x256, .i32⟩
  | 105 => ⟨S32x180, .i32⟩
  | 106 => ⟨S32x76, .i32⟩
  | 107 => ⟨S_, .i32⟩
  | 108 => ⟨S32x180, .i32⟩
  | 109 => ⟨S32x180, .i1⟩
  | 110 => ⟨S_, .i32⟩
  | 111 => ⟨S32x180, .i32⟩
  | 112 => ⟨S32x180, .i32⟩
  | 113 => ⟨S32x180, .i32⟩
  | 114 => ⟨S32x180x1, .i32⟩
  | 115 => ⟨S1, .i32⟩
  | 116 => ⟨S_, .i32⟩
  | 117 => ⟨S32x180x1, .i32⟩
  | 118 => ⟨S32x180x1, .i1⟩
  | 119 => ⟨S1x1x1, .i32⟩
  | 120 => ⟨S32x180x1, .i32⟩
  | 121 => ⟨S32x180x1, .i1⟩
  | 122 => ⟨S32x180x1, .i1⟩
  | 123 => ⟨S_, .i1⟩
  | 124 => ⟨S32x180, .i1⟩
  | 125 => ⟨S32x180, .i32⟩
  | 126 => ⟨S_, .i32⟩
  | 127 => ⟨S32x180, .i32⟩
  | _ => ⟨S32x576x768, .f32⟩

abbrev hbmTy0_1 (i : Nat) : BufTy := match i % 128 with
  | 0 => ⟨S32x180, .i32⟩
  | 1 => ⟨S_, .i32⟩
  | 2 => ⟨S32x76, .i32⟩
  | 3 => ⟨S32x76, .i1⟩
  | 4 => ⟨S_, .i32⟩
  | 5 => ⟨S32x76, .i32⟩
  | 6 => ⟨S32x76, .i32⟩
  | 7 => ⟨S32x76, .i32⟩
  | 8 => ⟨S32x76x1, .i32⟩
  | 9 => ⟨S1, .i32⟩
  | 10 => ⟨S_, .i32⟩
  | 11 => ⟨S32x76x1, .i32⟩
  | 12 => ⟨S32x76x1, .i1⟩
  | 13 => ⟨S1x1x1, .i32⟩
  | 14 => ⟨S32x76x1, .i32⟩
  | 15 => ⟨S32x76x1, .i1⟩
  | 16 => ⟨S32x76x1, .i1⟩
  | 17 => ⟨S_, .i1⟩
  | 18 => ⟨S32x76, .i1⟩
  | 19 => ⟨S32x76, .i32⟩
  | 20 => ⟨S_, .i32⟩
  | 21 => ⟨S32x76, .i32⟩
  | 22 => ⟨S32x76, .i32⟩
  | 23 => ⟨S32x180x1, .i32⟩
  | 24 => ⟨S_, .i32⟩
  | 25 => ⟨S32x180x1, .i32⟩
  | 26 => ⟨S32x180x1, .i1⟩
  | 27 => ⟨S_, .i32⟩
  | 28 => ⟨S32x180x1, .i32⟩
  | 29 => ⟨S32x180x1, .i32⟩
  | 30 => ⟨S32x180x1, .i32⟩
  | 31 => ⟨S1, .i32⟩
  | 32 => ⟨S_, .i32⟩
  | 33 => ⟨S32x180x1, .i32⟩
  | 34 => ⟨S32x180x1, .i1⟩
  | 35 => ⟨S1x1x1, .i32⟩
  | 36 => ⟨S32x180x1, .i32⟩
  | 37 => ⟨S32x180x1, .i1⟩
  | 38 => ⟨S32x180x1, .i1⟩
  | 39 => ⟨S_, .i1⟩
  | 40 => ⟨S32x180, .i1⟩
  | 41 => ⟨S32x180x768, .f32⟩
  | 42 => ⟨S32x180x768, .i1⟩
  | 43 => ⟨S_, .f32⟩
  | 44 => ⟨S32x180x768, .f32⟩
  | 45 => ⟨S32x180x768, .f32⟩
  | 46 => ⟨S32x256, .f32⟩
  | 47 => ⟨S32x256, .i32⟩
  | 48 => ⟨S32x256, .f32⟩
  | 49 => ⟨S32x256, .i32⟩
  | 50 => ⟨S32x180, .i32⟩
  | 51 => ⟨S32x76, .i32⟩
  | 52 => ⟨S_, .i32⟩
  | 53 => ⟨S32x180, .i32⟩
  | 54 => ⟨S32x180, .i1⟩
  | 55 => ⟨S_, .i32⟩
  | 56 => ⟨S32x180, .i32⟩
  | 57 => ⟨S32x180, .i32⟩
  | 58 => ⟨S32x180, .i32⟩
  | 59 => ⟨S32x180x1, .i32⟩
  | 60 => ⟨S1, .i32⟩
  | 61 => ⟨S_, .i32⟩
  | 62 => ⟨S32x180x1, .i32⟩
  | 63 => ⟨S32x180x1, .i1⟩
  | 64 => ⟨S1x1x1, .i32⟩
  | 65 => ⟨S32x180x1, .i32⟩
  | 66 => ⟨S32x180x1, .i1⟩
  | 67 => ⟨S32x180x1, .i1⟩
  | 68 => ⟨S_, .i1⟩
  | 69 => ⟨S32x180, .i1⟩
  | 70 => ⟨S32x180, .i32⟩
  | 71 => ⟨S_, .i32⟩
  | 72 => ⟨S32x180, .i32⟩
  | 73 => ⟨S32x180, .i32⟩
  | 74 => ⟨S_, .i32⟩
  | 75 => ⟨S32x76, .i32⟩
  | 76 => ⟨S32x76, .i1⟩
  | 77 => ⟨S_, .i32⟩
  | 78 => ⟨S32x76, .i32⟩
  | 79 => ⟨S32x76, .i32⟩
  | 80 => ⟨S32x76, .i32⟩
  | 81 => ⟨S32x76x1, .i32⟩
  | 82 => ⟨S1, .i32⟩
  | 83 => ⟨S_, .i32⟩
  | 84 => ⟨S32x76x1, .i32⟩
  | 85 => ⟨S32x76x1, .i1⟩
  | 86 => ⟨S1x1x1, .i32⟩
  | 87 => ⟨S32x76x1, .i32⟩
  | 88 => ⟨S32x76x1, .i1⟩
  | 89 => ⟨S32x76x1, .i1⟩
  | 90 => ⟨S_, .i1⟩
  | 91 => ⟨S32x76, .i1⟩
  | 92 => ⟨S32x76, .i32⟩
  | 93 => ⟨S_, .i32⟩
  | 94 => ⟨S32x76, .i32⟩
  | 95 => ⟨S32x76, .i32⟩
  | 96 => ⟨S32x180x1, .i32⟩
  | 97 => ⟨S_, .i32⟩
  | 98 => ⟨S32x180x1, .i32⟩
  | 99 => ⟨S32x180x1, .i1⟩
  | 100 => ⟨S_, .i32⟩
  | 101 => ⟨S32x180x1, .i32⟩
  | 102 => ⟨S32x180x1, .i32⟩
  | 103 => ⟨S32x180x1, .i32⟩
  | 104 => ⟨S1, .i32⟩
  | 105 => ⟨S_, .i32⟩
  | 106 => ⟨S32x180x1, .i32⟩
  | 107 => ⟨S32x180x1, .i1⟩
  | 108 => ⟨S1x1x1, .i32⟩
  | 109 => ⟨S32x180x1, .i32⟩
  | 110 => ⟨S32x180x1, .i1⟩
  | 111 => ⟨S32x180x1, .i1⟩
  | 112 => ⟨S_, .i1⟩
  | 113 => ⟨S32x180, .i1⟩
  | 114 => ⟨S32x180x768, .f32⟩
  | 115 => ⟨S32x180x768, .i1⟩
  | 116 => ⟨S_, .f32⟩
  | 117 => ⟨S32x180x768, .f32⟩
  | 118 => ⟨S32x180x768, .f32⟩
  | 119 => ⟨S32x424x768, .f32⟩
  | 120 => ⟨S_, .f32⟩
  | 121 => ⟨S32x424, .f32⟩
  | 122 => ⟨S32x424x1, .f32⟩
  | 123 => ⟨S_, .f32⟩
  | 124 => ⟨S32x424x1, .f32⟩
  | 125 => ⟨S32x424x1, .f32⟩
  | 126 => ⟨S32x424x768, .f32⟩
  | 127 => ⟨S32x424x768, .f32⟩
  | _ => ⟨S32x576x768, .f32⟩

abbrev hbmTy0_2 (i : Nat) : BufTy := match i % 128 with
  | 0 => ⟨S32x424x768, .f32⟩
  | 1 => ⟨S_, .f32⟩
  | 2 => ⟨S32x424, .f32⟩
  | 3 => ⟨S32x424x1, .f32⟩
  | 4 => ⟨S_, .f32⟩
  | 5 => ⟨S32x424x1, .f32⟩
  | 6 => ⟨S32x424x1, .f32⟩
  | 7 => ⟨S32x424x768, .f32⟩
  | 8 => ⟨S32x424x768, .f32⟩
  | 9 => ⟨S_, .f32⟩
  | 10 => ⟨S32x424x1, .f32⟩
  | 11 => ⟨S32x424x1, .f32⟩
  | 12 => ⟨S32x424x1, .f32⟩
  | 13 => ⟨S32x424x768, .f32⟩
  | 14 => ⟨S32x424x768, .f32⟩
  | 15 => ⟨S1x1x768, .f32⟩
  | 16 => ⟨S32x424x768, .f32⟩
  | 17 => ⟨S32x424x768, .f32⟩
  | 18 => ⟨S1x1x768, .f32⟩
  | 19 => ⟨S32x424x768, .f32⟩
  | 20 => ⟨S32x424x768, .f32⟩
  | 21 => ⟨S768x3072, .f32⟩
  | 22 => ⟨S32x424x3072, .f32⟩
  | 23 => ⟨S1x1x3072, .f32⟩
  | 24 => ⟨S32x424x3072, .f32⟩
  | 25 => ⟨S32x424x3072, .f32⟩
  | 26 => ⟨S_, .f32⟩
  | 27 => ⟨S32x424x3072, .f32⟩
  | 28 => ⟨S32x424x3072, .f32⟩
  | 29 => ⟨S32x424x3072, .f32⟩
  | 30 => ⟨S_, .f32⟩
  | 31 => ⟨S32x424x3072, .f32⟩
  | 32 => ⟨S32x424x3072, .f32⟩
  | 33 => ⟨S32x424x3072, .f32⟩
  | 34 => ⟨S32x424x3072, .f32⟩
  | 35 => ⟨S3072x768, .f32⟩
  | 36 => ⟨S32x424x768, .f32⟩
  | 37 => ⟨S1x1x768, .f32⟩
  | 38 => ⟨S32x424x768, .f32⟩
  | 39 => ⟨S32x424x768, .f32⟩
  | 40 => ⟨S32x424x768, .f32⟩
  | _ => ⟨S32x576x768, .f32⟩

abbrev hbmTy (i : Nat) : BufTy := match i / 128 with
  | 0 => hbmTy0_0 i
  | 1 => hbmTy0_1 i
  | 2 => hbmTy0_2 i
  | _ => ⟨S32x576x768, .f32⟩

abbrev bufTy : (tb : Table) → Fin (tcTables nBuf tb) → BufTy
  | .hbm, ⟨i, _⟩ => hbmTy i
  | _, _ => ⟨S32x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_8 : Ref sig .tc := ⟨.hbm, 89, rfl⟩
abbrev main_v64 : Ref sig .tc := ⟨.hbm, 90, rfl⟩
abbrev main_cst_9 : Ref sig .tc := ⟨.hbm, 91, rfl⟩
abbrev main_v65 : Ref sig .tc := ⟨.hbm, 92, rfl⟩
abbrev main_v66 : Ref sig .tc := ⟨.hbm, 93, rfl⟩
abbrev main_cst_10 : Ref sig .tc := ⟨.hbm, 94, rfl⟩
abbrev main_v67 : Ref sig .tc := ⟨.hbm, 95, rfl⟩
abbrev main_cst_11 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_call0_v0 : Ref sig .tc := ⟨.hbm, 102, rfl⟩
abbrev main_call0_v1_0 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_call1_c : Ref sig .tc := ⟨.hbm, 107, rfl⟩
abbrev main_call1_v0 : Ref sig .tc := ⟨.hbm, 108, rfl⟩
abbrev main_call1_v1 : Ref sig .tc := ⟨.hbm, 109, rfl⟩
abbrev main_call1_c_0 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_call1_v5 : Ref sig .tc := ⟨.hbm, 114, rfl⟩
abbrev main_call1_c_1 : Ref sig .tc := ⟨.hbm, 115, rfl⟩
abbrev main_call1_c_2 : Ref sig .tc := ⟨.hbm, 116, rfl⟩
abbrev main_call1_v6 : Ref sig .tc := ⟨.hbm, 117, rfl⟩
abbrev main_call1_v7 : Ref sig .tc := ⟨.hbm, 118, rfl⟩
abbrev main_call1_v8 : Ref sig .tc := ⟨.hbm, 119, rfl⟩
abbrev main_call1_v9 : Ref sig .tc := ⟨.hbm, 120, rfl⟩
abbrev main_call1_v10 : Ref sig .tc := ⟨.hbm, 121, rfl⟩
abbrev main_call1_v11 : Ref sig .tc := ⟨.hbm, 122, rfl⟩
abbrev main_call1_c_3 : Ref sig .tc := ⟨.hbm, 123, rfl⟩
abbrev main_call1_v12 : Ref sig .tc := ⟨.hbm, 124, rfl⟩
abbrev main_call1_v13 : Ref sig .tc := ⟨.hbm, 125, rfl⟩
abbrev main_call1_c_4 : Ref sig .tc := ⟨.hbm, 126, rfl⟩
abbrev main_call1_v14 : Ref sig .tc := ⟨.hbm, 127, rfl⟩
abbrev main_v76 : Ref sig .tc := ⟨.hbm, 128, rfl⟩
abbrev main_call2_c : Ref sig .tc := ⟨.hbm, 129, rfl⟩
abbrev main_call2_v0 : Ref sig .tc := ⟨.hbm, 130, rfl⟩
abbrev main_call2_v1 : Ref sig .tc := ⟨.hbm, 131, rfl⟩
abbrev main_call2_c_0 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_call2_v5 : Ref sig .tc := ⟨.hbm, 136, rfl⟩
abbrev main_call2_c_1 : Ref sig .tc := ⟨.hbm, 137, rfl⟩
abbrev main_call2_c_2 : Ref sig .tc := ⟨.hbm, 138, rfl⟩
abbrev main_call2_v6 : Ref sig .tc := ⟨.hbm, 139, rfl⟩
abbrev main_call2_v7 : Ref sig .tc := ⟨.hbm, 140, rfl⟩
abbrev main_call2_v8 : Ref sig .tc := ⟨.hbm, 141, rfl⟩
abbrev main_call2_v9 : Ref sig .tc := ⟨.hbm, 142, rfl⟩
abbrev main_call2_v10 : Ref sig .tc := ⟨.hbm, 143, rfl⟩
abbrev main_call2_v11 : Ref sig .tc := ⟨.hbm, 144, rfl⟩
abbrev main_call2_c_3 : Ref sig .tc := ⟨.hbm, 145, rfl⟩
abbrev main_call2_v12 : Ref sig .tc := ⟨.hbm, 146, rfl⟩
abbrev main_call2_v13 : Ref sig .tc := ⟨.hbm, 147, rfl⟩
abbrev main_call2_c_4 : Ref sig .tc := ⟨.hbm, 148, rfl⟩
abbrev main_call2_v14 : Ref sig .tc := ⟨.hbm, 149, rfl⟩
abbrev main_v77 : Ref sig .tc := ⟨.hbm, 150, rfl⟩
abbrev main_v78 : Ref sig .tc := ⟨.hbm, 151, rfl⟩
abbrev main_call3_c : Ref sig .tc := ⟨.hbm, 152, rfl⟩
abbrev main_call3_v0 : Ref sig .tc := ⟨.hbm, 153, rfl⟩
abbrev main_call3_v1 : Ref sig .tc := ⟨.hbm, 154, rfl⟩
abbrev main_call3_c_0 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_c_1 : Ref sig .tc := ⟨.hbm, 159, rfl⟩
abbrev main_call3_c_2 : Ref sig .tc := ⟨.hbm, 160, rfl⟩
abbrev main_call3_v5 : Ref sig .tc := ⟨.hbm, 161, rfl⟩
abbrev main_call3_v6 : Ref sig .tc := ⟨.hbm, 162, rfl⟩
abbrev main_call3_v7 : Ref sig .tc := ⟨.hbm, 163, rfl⟩
abbrev main_call3_v8 : Ref sig .tc := ⟨.hbm, 164, rfl⟩
abbrev main_call3_v9 : Ref sig .tc := ⟨.hbm, 165, rfl⟩
abbrev main_call3_v10 : Ref sig .tc := ⟨.hbm, 166, rfl⟩
abbrev main_call3_c_3 : Ref sig .tc := ⟨.hbm, 167, rfl⟩
abbrev main_call3_v11 : Ref sig .tc := ⟨.hbm, 168, rfl⟩
abbrev main_call3_v12 : Ref sig .tc := ⟨.hbm, 169, rfl⟩
abbrev main_call3_v13 : Ref sig .tc := ⟨.hbm, 170, rfl⟩
abbrev main_call3_cst : Ref sig .tc := ⟨.hbm, 171, rfl⟩
abbrev main_call3_v14 : Ref sig .tc := ⟨.hbm, 172, rfl⟩
abbrev main_v79 : Ref sig .tc := ⟨.hbm, 173, rfl⟩
abbrev main_v80 : Ref sig .tc := ⟨.hbm, 174, rfl⟩
abbrev main_call4_v0 : Ref sig .tc := ⟨.hbm, 175, rfl⟩
abbrev main_call4_v1_0 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_call5_c : Ref sig .tc := ⟨.hbm, 180, rfl⟩
abbrev main_call5_v0 : Ref sig .tc := ⟨.hbm, 181, rfl⟩
abbrev main_call5_v1 : Ref sig .tc := ⟨.hbm, 182, rfl⟩
abbrev main_call5_c_0 : Ref sig .tc := ⟨.hbm, 183, rfl⟩
abbrev main_call5_v2 : Ref sig .tc := ⟨.hbm, 184, rfl⟩
abbrev main_call5_v3 : Ref sig .tc := ⟨.hbm, 185, rfl⟩
abbrev main_call5_v4 : Ref sig .tc := ⟨.hbm, 186, rfl⟩
abbrev main_call5_v5 : Ref sig .tc := ⟨.hbm, 187, rfl⟩
abbrev main_call5_c_1 : Ref sig .tc := ⟨.hbm, 188, rfl⟩
abbrev main_call5_c_2 : Ref sig .tc := ⟨.hbm, 189, rfl⟩
abbrev main_call5_v6 : Ref sig .tc := ⟨.hbm, 190, rfl⟩
abbrev main_call5_v7 : Ref sig .tc := ⟨.hbm, 191, rfl⟩
abbrev main_call5_v8 : Ref sig .tc := ⟨.hbm, 192, rfl⟩
abbrev main_call5_v9 : Ref sig .tc := ⟨.hbm, 193, rfl⟩
abbrev main_call5_v10 : Ref sig .tc := ⟨.hbm, 194, rfl⟩
abbrev main_call5_v11 : Ref sig .tc := ⟨.hbm, 195, rfl⟩
abbrev main_call5_c_3 : Ref sig .tc := ⟨.hbm, 196, rfl⟩
abbrev main_call5_v12 : Ref sig .tc := ⟨.hbm, 197, rfl⟩
abbrev main_call5_v13 : Ref sig .tc := ⟨.hbm, 198, rfl⟩
abbrev main_call5_c_4 : Ref sig .tc := ⟨.hbm, 199, rfl⟩
abbrev main_call5_v14 : Ref sig .tc := ⟨.hbm, 200, rfl⟩
abbrev main_v84 : Ref sig .tc := ⟨.hbm, 201, rfl⟩
abbrev main_call6_c : Ref sig .tc := ⟨.hbm, 202, rfl⟩
abbrev main_call6_v0 : Ref sig .tc := ⟨.hbm, 203, rfl⟩
abbrev main_call6_v1 : Ref sig .tc := ⟨.hbm, 204, rfl⟩
abbrev main_call6_c_0 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_call6_v5 : Ref sig .tc := ⟨.hbm, 209, rfl⟩
abbrev main_call6_c_1 : Ref sig .tc := ⟨.hbm, 210, rfl⟩
abbrev main_call6_c_2 : Ref sig .tc := ⟨.hbm, 211, rfl⟩
abbrev main_call6_v6 : Ref sig .tc := ⟨.hbm, 212, rfl⟩
abbrev main_call6_v7 : Ref sig .tc := ⟨.hbm, 213, rfl⟩
abbrev main_call6_v8 : Ref sig .tc := ⟨.hbm, 214, rfl⟩
abbrev main_call6_v9 : Ref sig .tc := ⟨.hbm, 215, rfl⟩
abbrev main_call6_v10 : Ref sig .tc := ⟨.hbm, 216, rfl⟩
abbrev main_call6_v11 : Ref sig .tc := ⟨.hbm, 217, rfl⟩
abbrev main_call6_c_3 : Ref sig .tc := ⟨.hbm, 218, rfl⟩
abbrev main_call6_v12 : Ref sig .tc := ⟨.hbm, 219, rfl⟩
abbrev main_call6_v13 : Ref sig .tc := ⟨.hbm, 220, rfl⟩
abbrev main_call6_c_4 : Ref sig .tc := ⟨.hbm, 221, rfl⟩
abbrev main_call6_v14 : Ref sig .tc := ⟨.hbm, 222, rfl⟩
abbrev main_v85 : Ref sig .tc := ⟨.hbm, 223, rfl⟩
abbrev main_v86 : Ref sig .tc := ⟨.hbm, 224, rfl⟩
abbrev main_call7_c : Ref sig .tc := ⟨.hbm, 225, rfl⟩
abbrev main_call7_v0 : Ref sig .tc := ⟨.hbm, 226, rfl⟩
abbrev main_call7_v1 : Ref sig .tc := ⟨.hbm, 227, rfl⟩
abbrev main_call7_c_0 : Ref sig .tc := ⟨.hbm, 228, rfl⟩
abbrev main_call7_v2 : Ref sig .tc := ⟨.hbm, 229, rfl⟩
abbrev main_call7_v3 : Ref sig .tc := ⟨.hbm, 230, rfl⟩
abbrev main_call7_v4 : Ref sig .tc := ⟨.hbm, 231, rfl⟩
abbrev main_call7_c_1 : Ref sig .tc := ⟨.hbm, 232, rfl⟩
abbrev main_call7_c_2 : Ref sig .tc := ⟨.hbm, 233, rfl⟩
abbrev main_call7_v5 : Ref sig .tc := ⟨.hbm, 234, rfl⟩
abbrev main_call7_v6 : Ref sig .tc := ⟨.hbm, 235, rfl⟩
abbrev main_call7_v7 : Ref sig .tc := ⟨.hbm, 236, rfl⟩
abbrev main_call7_v8 : Ref sig .tc := ⟨.hbm, 237, rfl⟩
abbrev main_call7_v9 : Ref sig .tc := ⟨.hbm, 238, rfl⟩
abbrev main_call7_v10 : Ref sig .tc := ⟨.hbm, 239, rfl⟩
abbrev main_call7_c_3 : Ref sig .tc := ⟨.hbm, 240, rfl⟩
abbrev main_call7_v11 : Ref sig .tc := ⟨.hbm, 241, rfl⟩
abbrev main_call7_v12 : Ref sig .tc := ⟨.hbm, 242, rfl⟩
abbrev main_call7_v13 : Ref sig .tc := ⟨.hbm, 243, rfl⟩
abbrev main_call7_cst : Ref sig .tc := ⟨.hbm, 244, rfl⟩
abbrev main_call7_v14 : Ref sig .tc := ⟨.hbm, 245, rfl⟩
abbrev main_v87 : Ref sig .tc := ⟨.hbm, 246, rfl⟩
abbrev main_v88 : Ref sig .tc := ⟨.hbm, 247, rfl⟩
abbrev main_cst_12 : Ref sig .tc := ⟨.hbm, 248, rfl⟩
abbrev main_v89 : Ref sig .tc := ⟨.hbm, 249, rfl⟩
abbrev main_v90 : Ref sig .tc := ⟨.hbm, 250, rfl⟩
abbrev main_cst_13 : Ref sig .tc := ⟨.hbm, 251, rfl⟩
abbrev main_v91 : Ref sig .tc := ⟨.hbm, 252, rfl⟩
abbrev main_v92 : Ref sig .tc := ⟨.hbm, 253, rfl⟩
abbrev main_v93 : Ref sig .tc := ⟨.hbm, 254, rfl⟩
abbrev main_v94 : Ref sig .tc := ⟨.hbm, 255, rfl⟩
abbrev main_v95 : Ref sig .tc := ⟨.hbm, 256, rfl⟩
abbrev main_cst_14 : Ref sig .tc := ⟨.hbm, 257, rfl⟩
abbrev main_v96 : Ref sig .tc := ⟨.hbm, 258, rfl⟩
abbrev main_v97 : Ref sig .tc := ⟨.hbm, 259, rfl⟩
abbrev main_cst_15 : Ref sig .tc := ⟨.hbm, 260, rfl⟩
abbrev main_v98 : Ref sig .tc := ⟨.hbm, 261, rfl⟩
abbrev main_v99 : Ref sig .tc := ⟨.hbm, 262, rfl⟩
abbrev main_v100 : Ref sig .tc := ⟨.hbm, 263, rfl⟩
abbrev main_v101 : Ref sig .tc := ⟨.hbm, 264, rfl⟩
abbrev main_cst_16 : Ref sig .tc := ⟨.hbm, 265, rfl⟩
abbrev main_v102 : Ref sig .tc := ⟨.hbm, 266, rfl⟩
abbrev main_v103 : Ref sig .tc := ⟨.hbm, 267, rfl⟩
abbrev main_v104 : Ref sig .tc := ⟨.hbm, 268, rfl⟩
abbrev main_v105 : Ref sig .tc := ⟨.hbm, 269, rfl⟩
abbrev main_v106 : Ref sig .tc := ⟨.hbm, 270, rfl⟩
abbrev main_v107 : Ref sig .tc := ⟨.hbm, 271, rfl⟩
abbrev main_v108 : Ref sig .tc := ⟨.hbm, 272, rfl⟩
abbrev main_v109 : Ref sig .tc := ⟨.hbm, 273, rfl⟩
abbrev main_v110 : Ref sig .tc := ⟨.hbm, 274, rfl⟩
abbrev main_v111 : Ref sig .tc := ⟨.hbm, 275, rfl⟩
abbrev main_v112 : Ref sig .tc := ⟨.hbm, 276, rfl⟩
abbrev main_v113 : Ref sig .tc := ⟨.hbm, 277, rfl⟩
abbrev main_v114 : Ref sig .tc := ⟨.hbm, 278, rfl⟩
abbrev main_v115 : Ref sig .tc := ⟨.hbm, 279, rfl⟩
abbrev main_v116 : Ref sig .tc := ⟨.hbm, 280, rfl⟩
abbrev main_v117 : Ref sig .tc := ⟨.hbm, 281, rfl⟩
abbrev main_cst_17 : Ref sig .tc := ⟨.hbm, 282, rfl⟩
abbrev main_v118 : Ref sig .tc := ⟨.hbm, 283, rfl⟩
abbrev main_v119 : Ref sig .tc := ⟨.hbm, 284, rfl⟩
abbrev main_v120 : Ref sig .tc := ⟨.hbm, 285, rfl⟩
abbrev main_cst_18 : Ref sig .tc := ⟨.hbm, 286, rfl⟩
abbrev main_v121 : Ref sig .tc := ⟨.hbm, 287, rfl⟩
abbrev main_v122 : Ref sig .tc := ⟨.hbm, 288, rfl⟩
abbrev main_v123 : Ref sig .tc := ⟨.hbm, 289, rfl⟩
abbrev main_v124 : Ref sig .tc := ⟨.hbm, 290, rfl⟩
abbrev main_v125 : Ref sig .tc := ⟨.hbm, 291, rfl⟩
abbrev main_v126 : Ref sig .tc := ⟨.hbm, 292, rfl⟩
abbrev main_v127 : Ref sig .tc := ⟨.hbm, 293, rfl⟩
abbrev main_v128 : Ref sig .tc := ⟨.hbm, 294, rfl⟩
abbrev main_v129 : Ref sig .tc := ⟨.hbm, 295, rfl⟩
abbrev main_v130 : Ref sig .tc := ⟨.hbm, 296, rfl⟩

abbrev nD : Nat := 1
abbrev τ : Topo := Topo.v7x

variable {F : FTy → Type} [FloatOps F]
-- ==== Proof.Rows.lean ====
/- The mathematics both programs compute, over plain functions of row and column numbers: one head's scores,
   exponentials, weights and value rows, the projected residual row, and the layer norm and MLP of a row. -/
module

public import Idealize.ShloMosaic.Lib.Pointwise

@[expose] public section

noncomputable section

namespace Cert.Rows

open Idealize.ShloMosaic

/-- Column `64 h + d` of the queries, head `h`'s entry `d`. -/
def qcol (h : Fin 12) (d : Fin 64) : Fin 2304 := ⟨64 * h.val + d.val, by omega⟩
/-- Column `768 + 64 h + d` of the keys. -/
def kcol (h : Fin 12) (d : Fin 64) : Fin 2304 := ⟨768 + 64 * h.val + d.val, by omega⟩
/-- Column `1536 + 64 h + d` of the values. -/
def vcol (h : Fin 12) (d : Fin 64) : Fin 2304 := ⟨1536 + 64 * h.val + d.val, by omega⟩

/-- The scaled score of the query row `R` against key row `k` of `K` under head `h`. -/
def sc (R : Fin 2304 → EReal) (K : Fin 576 → Fin 2304 → EReal) (h : Fin 12) (k : Fin 576) : EReal :=
  (∑ d : Fin 64, R (qcol h d) * K k (kcol h d)) * Ideal.ofBits .f32 0x3E000000#32

/-- The exponential of a score less the row's greatest. -/
def ex (R : Fin 2304 → EReal) (K : Fin 576 → Fin 2304 → EReal) (h : Fin 12) (k : Fin 576) : EReal :=
  Ideal.exp (sc R K h k - Finset.univ.fold max (Ideal.ofBits .f32 0xFF800000#32) fun j => sc R K h j)

/-- The softmax weight. -/
def pr (R : Fin 2304 → EReal) (K : Fin 576 → Fin 2304 → EReal) (h : Fin 12) (k : Fin 576) : EReal :=
  Ideal.div (ex R K h k) (∑ j : Fin 576, ex R K h j)

/-- Entry `d` of head `h`'s weighted sum of value rows. -/
def hd (R : Fin 2304 → EReal) (K : Fin 576 → Fin 2304 → EReal) (h : Fin 12) (d : Fin 64) : EReal :=
  ∑ k : Fin 576, pr R K h k * K k (vcol h d)

/-- The heads side by side: column `c` is entry `c % 64` of head `c / 64`. -/
def cat (R : Fin 2304 → EReal) (K : Fin 576 → Fin 2304 → EReal) (c : Fin 768) : EReal :=
  hd R K ⟨c.val / 64, by omega⟩ ⟨c.val % 64, by omega⟩

/-- The residual row after the projection `W`, `b`. -/
def xo (X b : Fin 768 → EReal) (W : Fin 768 → Fin 768 → EReal) (R : Fin 2304 → EReal)
    (K : Fin 576 → Fin 2304 → EReal) (j : Fin 768) : EReal :=
  X j + b j + ∑ c : Fin 768, cat R K c * W c j

/-- The mean of a row. -/
def mean (x : Fin 768 → EReal) : EReal := Ideal.div (∑ l : Fin 768, x l) (Ideal.ofBits .f32 0x44400000#32)

/-- A row normalised, scaled by `g` and shifted by `b`. -/
def nrm (x g b : Fin 768 → EReal) (j : Fin 768) : EReal :=
  Ideal.div (x j - mean x) (Ideal.sqrt (Ideal.div (∑ l : Fin 768, (x l - mean x) * (x l - mean x))
    (Ideal.ofBits .f32 0x44400000#32) + Ideal.ofBits .f32 0x3727C5AC#32)) * g j + b j

/-- The hidden layer before its activation. -/
def hid (x g b : Fin 768 → EReal) (W : Fin 768 → Fin 3072 → EReal) (c : Fin 3072 → EReal) (k : Fin 3072) : EReal :=
  (∑ j : Fin 768, nrm x g b j * W j k) + c k

/-- The activation. -/
def gel (a : EReal) : EReal :=
  Ideal.ofBits .f32 0x3F000000#32 * a * (1 + Ideal.erf (a * Ideal.ofBits .f32 0x3F3504F3#32))

/-- The row with its layer norm and MLP added. -/
def mlp (x g b : Fin 768 → EReal) (W : Fin 768 → Fin 3072 → EReal) (c : Fin 3072 → EReal)
    (U : Fin 3072 → Fin 768 → EReal) (d : Fin 768 → EReal) (j : Fin 768) : EReal :=
  x j + ((∑ k : Fin 3072, gel (hid x g b W c k) * U k j) + d j)

/-- The row of `X` that the number `w` names, as a sum over all rows weighted by one for that row and by zero for the others. -/
def pick (w : BitVec 32) (X : Fin 576 → Fin 768 → EReal) (l : Fin 768) : EReal :=
  ∑ k : Fin 576, ((((IntOp.cmpi .eq w (BitVec.ofNat 32 k.val)).setWidth 32).toInt : ℝ) : EReal) * X k l

/-- It is that row. -/
theorem pick_eq (w : BitVec 32) (X : Fin 576 → Fin 768 → EReal) (r : Fin 576) (h : w.toNat = r.val) : pick w X = X r := by
  have e : ∀ k : Fin 576, (w == BitVec.ofNat 32 k.val) = decide (k = r) := fun k => by
    rw [Bool.eq_iff_iff, beq_iff_eq, decide_eq_true_iff, ← BitVec.toNat_inj, BitVec.toNat_ofNat, h, Fin.ext_iff]
    omega
  funext l
  unfold pick
  rw [Finset.sum_eq_single r]
  · simp [IntOp.cmpi, e]
  · intro k _ hk
    simp [IntOp.cmpi, e, hk]
  · intro hr
    exact absurd (Finset.mem_univ r) hr

end Cert.Rows

end
-- ==== Proof.Head.lean ====
module

public import proofs.«01_k».proof.Proof.Rows
public import proofs.«01_k».proof.Proof.Gen.KernelIdeal.Skeleton

@[expose] public section

set_option maxRecDepth 16384

noncomputable section

namespace Cert.KernelIdeal.Head

open Idealize.ShloMosaic Idealize.SL.Sem Cert.KernelIdeal Cert.KernelIdeal.Gen Cert.Rows

/-- Scores of a block's query rows against the keys. -/
def vS (q : FVec Ideal S288x64 .f32) (k : FVec Ideal S576x64 .f32) : FVec Ideal S288x576 .f32 :=
  mulf (matmul dot_S288x64_S576x64_S288x576_1_1_0_0_n_n none q k (constant S288x576 .f32 0x00000000#32))
    (broadcast S288x576 (Scalar.ofBits .f32 0x3E000000#32))

/-- Their exponentials less each row's greatest. -/
def vE (s : FVec Ideal S288x576 .f32) : FVec Ideal S288x576 .f32 :=
  exp (subf s (broadcastTo S288x576 (shapeCast S288x1
    (multiReduction .maximumf [1] S288 s 0xFF800000#32 reduces_S288x576_S288 (.inl rfl) rfl)
    shapeCasts_S288_S288x1) broadcasts_S288x1_S288x576))

/-- Each row divided by its sum. -/
def vP (e : FVec Ideal S288x576 .f32) : FVec Ideal S288x576 .f32 :=
  divf e (broadcastTo S288x576 (shapeCast S288x1
    (multiReduction .add [1] S288 e 0x00000000#32 reduces_S288x576_S288 (.inl rfl) rfl)
    shapeCasts_S288_S288x1) broadcasts_S288x1_S288x576)

/-- The weighted sum of the value rows. -/
def vH (p : FVec Ideal S288x576 .f32) (v : FVec Ideal S576x64 .f32) : FVec Ideal S288x64 .f32 :=
  matmul dot_S288x576_S576x64_S288x64_1_0_0_1_n_n none p v (constant S288x64 .f32 0x00000000#32)

/-- A score: the product of a query row and a key row, scaled. -/
theorem vS_at (q : FVec Ideal S288x64 .f32) (k : FVec Ideal S576x64 .f32) (i : Fin 288) (j : Fin 576) :
    vS q k (ix2 i j) = (∑ d : Fin 64, q (ix2 i d) * k (ix2 j d)) * Ideal.ofBits .f32 0x3E000000#32 := by
  pointwise [vS]
/-- An exponential: of a score less its row's greatest. -/
theorem vE_at (s : FVec Ideal S288x576 .f32) (i : Fin 288) (j : Fin 576) :
    vE s (ix2 i j) = Ideal.exp (s (ix2 i j) - Finset.univ.fold max (Ideal.ofBits .f32 0xFF800000#32) fun l : Fin 576 => s (ix2 i l)) := by
  pointwise [vE]
/-- A weight: an exponential over its row's sum. -/
theorem vP_at (e : FVec Ideal S288x576 .f32) (i : Fin 288) (j : Fin 576) :
    vP e (ix2 i j) = Ideal.div (e (ix2 i j)) (∑ l : Fin 576, e (ix2 i l)) := by
  pointwise [vP]
/-- An entry of a head: the weighted sum of a value column. -/
theorem vH_at (p : FVec Ideal S288x576 .f32) (v : FVec Ideal S576x64 .f32) (i : Fin 288) (j : Fin 64) :
    vH p v (ix2 i j) = ∑ l : Fin 576, p (ix2 i l) * v (ix2 l j) := by
  pointwise [vH]

/-- Row `i` of the query block and the rows of keys and values, as functions of plain column numbers. -/
abbrev qrow (v5 : FVec Ideal S288x2304 .f32) (i : Fin 288) : Fin 2304 → EReal := fun l => v5 (ix2 i l)
/-- The rows of the key and value block. -/
abbrev krow (v1 : FVec Ideal S576x2304 .f32) : Fin 576 → Fin 2304 → EReal := fun k l => v1 (ix2 k l)

/-- The scores computed from the columns of head `h`. -/
theorem score_at (v1 : FVec Ideal S576x2304 .f32) (v5 : FVec Ideal S288x2304 .f32) (h : Fin 12) (o o' : Nat)
    (hq : S288x2304.Slices ![0, o] S288x64) (hk : S576x2304.Slices ![0, o'] S576x64)
    (ho : o = 64 * h.val) (ho' : o' = 768 + 64 * h.val) (i : Fin 288) (j : Fin 576) :
    vS (extractStridedSlice S288x64 ![0, o] v5 hq) (extractStridedSlice S576x64 ![0, o'] v1 hk) (ix2 i j)
      = sc (qrow v5 i) (krow v1) h j := by
  subst ho ho'
  rw [vS_at]
  unfold sc qcol kcol
  refine congrArg (· * _) (Finset.sum_congr rfl fun d _ => ?_)
  pointwise

/-- The exponentials computed from the columns of head `h`. -/
theorem exp_at (v1 : FVec Ideal S576x2304 .f32) (v5 : FVec Ideal S288x2304 .f32) (h : Fin 12) (o o' : Nat)
    (hq : S288x2304.Slices ![0, o] S288x64) (hk : S576x2304.Slices ![0, o'] S576x64)
    (ho : o = 64 * h.val) (ho' : o' = 768 + 64 * h.val) (i : Fin 288) (j : Fin 576) :
    vE (vS (extractStridedSlice S288x64 ![0, o] v5 hq) (extractStridedSlice S576x64 ![0, o'] v1 hk)) (ix2 i j)
      = ex (qrow v5 i) (krow v1) h j := by
  rw [vE_at]
  simp only [score_at v1 v5 h o o' hq hk ho ho']
  rfl

/-- The weights computed from the columns of head `h`. -/
theorem weight_at (v1 : FVec Ideal S576x2304 .f32) (v5 : FVec Ideal S288x2304 .f32) (h : Fin 12) (o o' : Nat)
    (hq : S288x2304.Slices ![0, o] S288x64) (hk : S576x2304.Slices ![0, o'] S576x64)
    (ho : o = 64 * h.val) (ho' : o' = 768 + 64 * h.val) (i : Fin 288) (j : Fin 576) :
    vP (vE (vS (extractStridedSlice S288x64 ![0, o] v5 hq) (extractStridedSlice S576x64 ![0, o'] v1 hk))) (ix2 i j)
      = pr (qrow v5 i) (krow v1) h j := by
  rw [vP_at]
  simp only [exp_at v1 v5 h o o' hq hk ho ho']
  rfl

/-- The weighted value rows computed from the columns of head `h`. -/
theorem head_at (v1 : FVec Ideal S576x2304 .f32) (v5 : FVec Ideal S288x2304 .f32) (h : Fin 12) (o o' o'' : Nat)
    (hq : S288x2304.Slices ![0, o] S288x64) (hk : S576x2304.Slices ![0, o'] S576x64)
    (hv : S576x2304.Slices ![0, o''] S576x64)
    (ho : o = 64 * h.val) (ho' : o' = 768 + 64 * h.val) (ho'' : o'' = 1536 + 64 * h.val) (i : Fin 288) (d : Fin 64) :
    vH (vP (vE (vS (extractStridedSlice S288x64 ![0, o] v5 hq) (extractStridedSlice S576x64 ![0, o'] v1 hk))))
      (extractStridedSlice S576x64 ![0, o''] v1 hv) (ix2 i d)
      = hd (qrow v5 i) (krow v1) h d := by
  rw [vH_at]
  simp only [weight_at v1 v5 h o o' hq hk ho ho']
  subst ho''
  unfold hd vcol
  refine Finset.sum_congr rfl fun k _ => ?_
  pointwise

/-- One step along a ladder of cases. -/
theorem step {P : Prop} [Decidable P] {α : Type _} {x : P → α} {y : ¬P → α} {u : P → α} {v : α}
    (h : ∀ e, x e = u e) (k : ∀ e, u e = v) (l : ∀ e, y e = v) : dite P x y = v := by
  by_cases e : P
  · rw [dif_pos e]; exact (h e).trans (k e)
  · rw [dif_neg e]; exact l e

/-- Twelve blocks of 64 columns side by side: column `c` is column `c % 64` of block `c / 64`. -/
theorem side_by_side (g0 g1 g2 g3 g4 g5 g6 g7 g8 g9 g10 g11 : FVec Ideal S288x64 .f32) (i : Fin 288)
    (f : Fin 12 → Fin 64 → EReal)
    (h0 : ∀ d, g0 (ix2 i d) = f 0 d) (h1 : ∀ d, g1 (ix2 i d) = f 1 d) (h2 : ∀ d, g2 (ix2 i d) = f 2 d)
    (h3 : ∀ d, g3 (ix2 i d) = f 3 d) (h4 : ∀ d, g4 (ix2 i d) = f 4 d) (h5 : ∀ d, g5 (ix2 i d) = f 5 d)
    (h6 : ∀ d, g6 (ix2 i d) = f 6 d) (h7 : ∀ d, g7 (ix2 i d) = f 7 d) (h8 : ∀ d, g8 (ix2 i d) = f 8 d)
    (h9 : ∀ d, g9 (ix2 i d) = f 9 d) (h10 : ∀ d, g10 (ix2 i d) = f 10 d) (h11 : ∀ d, g11 (ix2 i d) = f 11 d)
    (c : Fin 768) :
    concatenate S288x768 1 [⟨S288x64, g0⟩, ⟨S288x64, g1⟩, ⟨S288x64, g2⟩, ⟨S288x64, g3⟩, ⟨S288x64, g4⟩, ⟨S288x64, g5⟩,
      ⟨S288x64, g6⟩, ⟨S288x64, g7⟩, ⟨S288x64, g8⟩, ⟨S288x64, g9⟩, ⟨S288x64, g10⟩, ⟨S288x64, g11⟩]
      concatenates_S288x64_S288x64_S288x64_S288x64_S288x64_S288x64_S288x64_S288x64_S288x64_S288x64_S288x64_S288x64_S288x768_d1
      (ix2 i c) = f ⟨c.val / 64, by omega⟩ ⟨c.val % 64, by omega⟩ := by
  have key : ∀ (a : Fin 12) (d : Fin 64), c.val = 64 * a.val + d.val →
      f a d = f ⟨c.val / 64, by omega⟩ ⟨c.val % 64, by omega⟩ := fun a d e => by
    congr 1
    · exact Fin.ext (by show a.val = c.val / 64; omega)
    · exact Fin.ext (by show d.val = c.val % 64; omega)
  pointwise
  refine step (fun _ => h0 _) (fun e => key 0 _ ?_) fun e0 => ?_
  · show _ = 64 * 0 + _; first | omega | (simp only []; omega)
  refine step (fun _ => h1 _) (fun e => key 1 _ ?_) fun e1 => ?_
  · show _ = 64 * 1 + _; first | omega | (simp only []; omega)
  refine step (fun _ => h2 _) (fun e => key 2 _ ?_) fun e2 => ?_
  · show _ = 64 * 2 + _; first | omega | (simp only []; omega)
  refine step (fun _ => h3 _) (fun e => key 3 _ ?_) fun e3 => ?_
  · show _ = 64 * 3 + _; first | omega | (simp only []; omega)
  refine step (fun _ => h4 _) (fun e => key 4 _ ?_) fun e4 => ?_
  · show _ = 64 * 4 + _; first | omega | (simp only []; omega)
  refine step (fun _ => h5 _) (fun e => key 5 _ ?_) fun e5 => ?_
  · show _ = 64 * 5 + _; first | omega | (simp only []; omega)
  refine step (fun _ => h6 _) (fun e => key 6 _ ?_) fun e6 => ?_
  · show _ = 64 * 6 + _; first | omega | (simp only []; omega)
  refine step (fun _ => h7 _) (fun e => key 7 _ ?_) fun e7 => ?_
  · show _ = 64 * 7 + _; first | omega | (simp only []; omega)
  refine step (fun _ => h8 _) (fun e => key 8 _ ?_) fun e8 => ?_
  · show _ = 64 * 8 + _; first | omega | (simp only []; omega)
  refine step (fun _ => h9 _) (fun e => key 9 _ ?_) fun e9 => ?_
  · show _ = 64 * 9 + _; first | omega | (simp only []; omega)
  refine step (fun _ => h10 _) (fun e => key 10 _ ?_) fun e10 => ?_
  · show _ = 64 * 10 + _; first | omega | (simp only []; omega)
  exact (h11 _).trans (key 11 _ (by show _ = 64 * 11 + (c.val - 64 - 64 - 64 - 64 - 64 - 64 - 64 - 64 - 64 - 64 - 64); omega))

/-- The projection of the heads `g` and the residual: what the last store of a point holds. -/
def vO (g : FVec Ideal S288x768 .f32) (W : FVec Ideal S768x768 .f32) (X : FVec Ideal S1x288x768 .f32)
    (B : FVec Ideal S1x768 .f32) : FVec Ideal S1x288x768 .f32 :=
  shapeCast S1x288x768 (addf (addf (shapeCast S288x768 X shapeCasts_S1x288x768_S288x768)
      (broadcastTo S288x768 (shapeCast S1x768 (shapeCast S768 B shapeCasts_S1x768_S768) shapeCasts_S768_S1x768)
        broadcasts_S1x768_S288x768))
    (matmul dot_S288x768_S768x768_S288x768_1_0_0_1_n_n none g (shapeCast S768x768 W shapeCasts_S768x768_S768x768)
      (constant S288x768 .f32 0x00000000#32))) shapeCasts_S288x768_S1x288x768

/-- An output entry: the residual, the bias, and the projection of the heads' row. -/
theorem vO_at (g : FVec Ideal S288x768 .f32) (W : FVec Ideal S768x768 .f32) (X : FVec Ideal S1x288x768 .f32)
    (B : FVec Ideal S1x768 .f32) (z : Fin 1) (i : Fin 288) (j : Fin 768) :
    vO g W X B (ix3 z i j) = X (ix3 0 i j) + B (ix2 0 j) + ∑ c : Fin 768, g (ix2 i c) * W (ix2 c j) := by
  pointwise [vO]

/-- Every head's query columns lie in the block. -/
theorem slq : ∀ h : Fin 12, S288x2304.Slices ![0, 64 * h.val] S288x64 := by decide
/-- So do its key columns. -/
theorem slk : ∀ h : Fin 12, S576x2304.Slices ![0, 768 + 64 * h.val] S576x64 := by decide
/-- So do its value columns. -/
theorem slv : ∀ h : Fin 12, S576x2304.Slices ![0, 1536 + 64 * h.val] S576x64 := by decide

/-- Head `h` of the query block. -/
def gh (v1 : FVec Ideal S576x2304 .f32) (v5 : FVec Ideal S288x2304 .f32) (h : Fin 12) : FVec Ideal S288x64 .f32 :=
  vH (vP (vE (vS (extractStridedSlice S288x64 ![0, 64 * h.val] v5 (slq h))
    (extractStridedSlice S576x64 ![0, 768 + 64 * h.val] v1 (slk h)))))
    (extractStridedSlice S576x64 ![0, 1536 + 64 * h.val] v1 (slv h))

/-- A head's entry is the weighted sum of the scalar text. -/
theorem gh_at (v1 : FVec Ideal S576x2304 .f32) (v5 : FVec Ideal S288x2304 .f32) (h : Fin 12) (i : Fin 288) (d : Fin 64) :
    gh v1 v5 h (ix2 i d) = hd (qrow v5 i) (krow v1) h d :=
  head_at v1 v5 h _ _ _ _ _ _ rfl rfl rfl i d

/-- The heads side by side. -/
def vC (v1 : FVec Ideal S576x2304 .f32) (v5 : FVec Ideal S288x2304 .f32) : FVec Ideal S288x768 .f32 :=
  concatenate S288x768 1 [⟨S288x64, gh v1 v5 0⟩, ⟨S288x64, gh v1 v5 1⟩, ⟨S288x64, gh v1 v5 2⟩, ⟨S288x64, gh v1 v5 3⟩, ⟨S288x64, gh v1 v5 4⟩, ⟨S288x64, gh v1 v5 5⟩, ⟨S288x64, gh v1 v5 6⟩, ⟨S288x64, gh v1 v5 7⟩, ⟨S288x64, gh v1 v5 8⟩, ⟨S288x64, gh v1 v5 9⟩, ⟨S288x64, gh v1 v5 10⟩, ⟨S288x64, gh v1 v5 11⟩]
    concatenates_S288x64_S288x64_S288x64_S288x64_S288x64_S288x64_S288x64_S288x64_S288x64_S288x64_S288x64_S288x64_S288x768_d1

/-- The heads side by side, entry by entry. -/
theorem vC_at (v1 : FVec Ideal S576x2304 .f32) (v5 : FVec Ideal S288x2304 .f32) (i : Fin 288) (c : Fin 768) :
    vC v1 v5 (ix2 i c) = cat (qrow v5 i) (krow v1) c :=
  side_by_side (gh v1 v5 0) (gh v1 v5 1) (gh v1 v5 2) (gh v1 v5 3) (gh v1 v5 4) (gh v1 v5 5) (gh v1 v5 6) (gh v1 v5 7) (gh v1 v5 8) (gh v1 v5 9) (gh v1 v5 10) (gh v1 v5 11) i (hd (qrow v5 i) (krow v1))
    (gh_at v1 v5 0 i) (gh_at v1 v5 1 i) (gh_at v1 v5 2 i) (gh_at v1 v5 3 i) (gh_at v1 v5 4 i) (gh_at v1 v5 5 i) (gh_at v1 v5 6 i) (gh_at v1 v5 7 i) (gh_at v1 v5 8 i) (gh_at v1 v5 9 i) (gh_at v1 v5 10 i) (gh_at v1 v5 11 i) c

end Cert.KernelIdeal.Head

end
-- ==== Proof.Region0.lean ====
module

public import proofs.«01_k».proof.Proof.Head
public import proofs.«01_k».proof.Proof.Gen.KernelIdeal.Frame
public import Idealize.ShloMosaic.Lib.Pipeline.ValueKit

@[expose] public section

set_option maxRecDepth 16384

noncomputable section

namespace Cert.KernelIdeal.Region0

open Idealize.ShloMosaic Idealize.ShloMosaic.TcCoe Idealize.SL.Sem Cert.KernelIdeal Cert.KernelIdeal.Gen Cert.Rows Cert.KernelIdeal.Head

variable (V : (c : Dev nD) → (b : Ref sig .tc) → Buf (Elt Ideal) ((c : Thread nD τ).loc b))

/-- The blocks that each grid step is given. -/
theorem idx : ∀ t : Fin cfg0.N, win0_0.index t = ![t.val / 2, t.val % 2, 0] ∧ win0_1.index t = ![t.val / 2, 0, 0]
    ∧ win0_2.index t = ![0, 0] ∧ win0_3.index t = ![0, 0] ∧ win0_4.index t = ![t.val / 2, 0, t.val % 2, 0]
    ∧ win0_5.index t = ![t.val / 2, 0, t.val % 2, 0] ∧ win0_6.index t = ![t.val / 2, t.val % 2, 0] :=
  (by decide +kernel : ∀ t : Fin grid0.N, _)

/-- The query rows of point `t` start at row `288 (t % 2)` of the batch entry. -/
theorem off : ∀ t : Fin cfg0.N, k0_off1 (grid0.coords t) = ![0, 288 * (t.val % 2), 0] :=
  (by decide +kernel : ∀ t : Fin grid0.N, _)

/-- The query row of batch entry `b` at row `q`, and its key and value rows. -/
abbrev Qrow (Q : FVec Ideal S32x576x2304 .f32) (b : Fin 32) (q : Fin 576) : Fin 2304 → EReal := fun l => Q (ix3 b q l)
/-- The key and value rows of batch entry `b`. -/
abbrev Krow (Q : FVec Ideal S32x576x2304 .f32) (b : Fin 32) : Fin 576 → Fin 2304 → EReal := fun k l => Q (ix3 b k l)

/-- The exponentials of the whole batch. -/
def arrE (Q : FVec Ideal S32x576x2304 .f32) : FVec Ideal S32x12x576x576 .f32 :=
  fun i => ex (Qrow Q (i 0) (i 2)) (Krow Q (i 0)) (i 1) (i 3)

/-- The weights of the whole batch. -/
def arrP (Q : FVec Ideal S32x576x2304 .f32) : FVec Ideal S32x12x576x576 .f32 :=
  fun i => pr (Qrow Q (i 0) (i 2)) (Krow Q (i 0)) (i 1) (i 3)

/-- The residual rows of the whole batch after the projection by `W` and `B`. -/
def arrX (X : FVec Ideal S32x576x768 .f32) (Q : FVec Ideal S32x576x2304 .f32) (W : FVec Ideal S768x768 .f32)
    (B : FVec Ideal S1x768 .f32) : FVec Ideal S32x576x768 .f32 :=
  fun i => xo (fun l => X (ix3 (i 0) (i 1) l)) (fun l => B (ix2 0 l)) (fun r l => W (ix2 r l))
    (Qrow Q (i 0) (i 1)) (Krow Q (i 0)) (i 2)

/-- What the two loaded blocks hold of the batch `Q`: the keys and values of entry `b`, and its rows from `288 r` on. -/
structure Blocks (Q : FVec Ideal S32x576x2304 .f32) (v1 : FVec Ideal S576x2304 .f32) (v5 : FVec Ideal S288x2304 .f32)
    (b r : Nat) : Prop where
  keys : ∀ (i : S576x2304.Idx) (j : S32x576x2304.Idx), (j 0 : ℕ) = b → (j 1 : ℕ) = i 0 → (j 2 : ℕ) = i 1 → v1 i = Q j
  rows : ∀ (i : S288x2304.Idx) (j : S32x576x2304.Idx), (j 0 : ℕ) = b → (j 1 : ℕ) = 288 * r + i 0 → (j 2 : ℕ) = i 1 →
    v5 i = Q j

variable {Q : FVec Ideal S32x576x2304 .f32} {v1 : FVec Ideal S576x2304 .f32} {v5 : FVec Ideal S288x2304 .f32} {b r : Nat}

/-- The block's key rows are the batch's. -/
theorem Blocks.krow_eq (H : Blocks Q v1 v5 b r) (z : Fin 32) (hz : z.val = b) : krow v1 = Krow Q z :=
  funext fun k => funext fun l => H.keys (ix2 k l) (ix3 z k l) hz rfl rfl

/-- The block's query rows are the batch's. -/
theorem Blocks.qrow_eq (H : Blocks Q v1 v5 b r) (z : Fin 32) (hz : z.val = b) (i : Fin 288) (q : Fin 576)
    (hq : q.val = 288 * r + i.val) : qrow v5 i = Qrow Q z q :=
  funext fun l => H.rows (ix2 i l) (ix3 z q l) hz hq rfl

/-- A stored tile of exponentials, read at the array's index it lands on. -/
theorem exp_tile (H : Blocks Q v1 v5 b r) (h : Fin 12) (o o' : Nat)
    (hq : S288x2304.Slices ![0, o] S288x64) (hk : S576x2304.Slices ![0, o'] S576x64)
    (x : S1x1x288x576.Idx) (z : S32x12x576x576.Idx)
    (ho : o = 64 * h.val) (ho' : o' = 768 + 64 * h.val)
    (hz0 : (z 0 : ℕ) = b) (hz1 : (z 1 : ℕ) = h.val) (hz2 : (z 2 : ℕ) = 288 * r + x 2) (hz3 : (z 3 : ℕ) = x 3) :
    shapeCast S1x1x288x576 (vE (vS (extractStridedSlice S288x64 ![0, o] v5 hq) (extractStridedSlice S576x64 ![0, o'] v1 hk)))
      shapeCasts_S288x576_S1x1x288x576 x = arrE Q z := by
  idx_vars x
  idx_vars z
  pointwise
  rw [exp_at v1 v5 h o o' hq hk ho ho', H.krow_eq z0 hz0, H.qrow_eq z0 hz0 x2 z2 hz2,
    show h = z1 from Fin.ext hz1.symm, show x3 = z3 from Fin.ext hz3.symm]
  rfl

/-- A stored tile of weights, read at the array's index it lands on. -/
theorem weight_tile (H : Blocks Q v1 v5 b r) (h : Fin 12) (o o' : Nat)
    (hq : S288x2304.Slices ![0, o] S288x64) (hk : S576x2304.Slices ![0, o'] S576x64)
    (x : S1x1x288x576.Idx) (z : S32x12x576x576.Idx)
    (ho : o = 64 * h.val) (ho' : o' = 768 + 64 * h.val)
    (hz0 : (z 0 : ℕ) = b) (hz1 : (z 1 : ℕ) = h.val) (hz2 : (z 2 : ℕ) = 288 * r + x 2) (hz3 : (z 3 : ℕ) = x 3) :
    shapeCast S1x1x288x576 (vP (vE (vS (extractStridedSlice S288x64 ![0, o] v5 hq) (extractStridedSlice S576x64 ![0, o'] v1 hk))))
      shapeCasts_S288x576_S1x1x288x576 x = arrP Q z := by
  idx_vars x
  idx_vars z
  pointwise
  rw [weight_at v1 v5 h o o' hq hk ho ho', H.krow_eq z0 hz0, H.qrow_eq z0 hz0 x2 z2 hz2,
    show h = z1 from Fin.ext hz1.symm, show x3 = z3 from Fin.ext hz3.symm]
  rfl

/-- The stored residual tile, read at the array's index it lands on. -/
theorem resid_tile (H : Blocks Q v1 v5 b r) (X : FVec Ideal S32x576x768 .f32) (W : FVec Ideal S768x768 .f32)
    (B : FVec Ideal S1x768 .f32) (X' : FVec Ideal S1x288x768 .f32) (x : S1x288x768.Idx) (z : S32x576x768.Idx)
    (hz0 : (z 0 : ℕ) = b) (hz1 : (z 1 : ℕ) = 288 * r + x 1) (hz2 : (z 2 : ℕ) = x 2)
    (hX : ∀ (i : S1x288x768.Idx) (j : S32x576x768.Idx), (j 0 : ℕ) = b → (j 1 : ℕ) = 288 * r + i 1 → (j 2 : ℕ) = i 2 →
      X' i = X j) (W' : FVec Ideal S768x768 .f32) (B' : FVec Ideal S1x768 .f32) (hW : ∀ i, W' i = W i) (hB : ∀ i, B' i = B i) :
    vO (vC v1 v5) W' X' B' x = arrX X Q W B z := by
  obtain rfl : W' = W := funext hW
  obtain rfl : B' = B := funext hB
  idx_vars x
  idx_vars z
  rw [vO_at]
  simp only [vC_at]
  rw [H.krow_eq z0 hz0, H.qrow_eq z0 hz0 x1 z1 hz1, hX (ix3 0 x1 x2) (ix3 z0 z1 z2) hz0 hz1 hz2,
    show x2 = z2 from Fin.ext hz2.symm]
  rfl

/-- The two blocks point `t` loads are those of batch entry `t / 2`, rows from `288 (t % 2)` on. -/
theorem blocks (c : Dev nD) (t : Fin cfg0.N) :
    Blocks (V c (Pipeline.arrRef spec0 1)) (k0_pay2 (F := Ideal) (iblk0 V c 1 t))
      (k0_pay3 (F := Ideal) (View.ld (iblk0 V c 1 t)
        (Rect.unit (k0_off1 (grid0.coords t)) ![1, 288, 2304] (k0_off1_inb (grid0.coords t))))) (t.val / 2) (t.val % 2) where
  keys i j h0 h1 h2 := by
    pointwise [k0_pay2]
    blk_point [iblk0, idx t]
  rows i j h0 h1 h2 := by
    have e0 : k0_off1 (grid0.coords t) 0 = 0 := congrFun (off t) 0
    have e1 : k0_off1 (grid0.coords t) 1 = 288 * (t.val % 2) := congrFun (off t) 1
    have e2 : k0_off1 (grid0.coords t) 2 = 0 := congrFun (off t) 2
    pointwise [k0_pay3]
    blk_point [iblk0, idx t] <;> omega

set_option maxHeartbeats 2000000 in
/-- The first result of the first kernel holds the exponentials. -/
theorem exps (c : Dev nD) : (dat0 V c).arrAt 4 cfg0.N = arrE (V c (Pipeline.arrRef spec0 1)) := by
  refine (dat0 V c).arrAt_eq_of_covers 4 _ (by decide +kernel) fun t hf y => ?_
  blk_simp
  rw [after0_4]; unfold outsAt0; frame_out
  have H := blocks V c t
  canon_tiles x h
  all_goals
    refine exp_tile H (y 1) _ _ (by decide) (by decide) x _ ?_ ?_ ?_ ?_ ?_ ?_
    · omega
    · omega
    all_goals (blk_simp [idx t] <;> try omega)

set_option maxHeartbeats 2000000 in
/-- Its second result holds the weights. -/
theorem weights (c : Dev nD) : (dat0 V c).arrAt 5 cfg0.N = arrP (V c (Pipeline.arrRef spec0 1)) := by
  refine (dat0 V c).arrAt_eq_of_covers 5 _ (by decide +kernel) fun t hf y => ?_
  blk_simp
  rw [after0_5]; unfold outsAt0; frame_out
  have H := blocks V c t
  canon_tiles x h
  all_goals
    refine weight_tile H (y 1) _ _ (by decide) (by decide) x _ ?_ ?_ ?_ ?_ ?_ ?_
    · omega
    · omega
    all_goals (blk_simp [idx t] <;> try omega)

set_option maxHeartbeats 2000000 in
/-- Its third result holds the residual rows. -/
theorem resid (c : Dev nD) : (dat0 V c).arrAt 6 cfg0.N = arrX (V c (Pipeline.arrRef spec0 0)) (V c (Pipeline.arrRef spec0 1))
    (V c (Pipeline.arrRef spec0 2)) (V c (Pipeline.arrRef spec0 3)) := by
  refine (dat0 V c).arrAt_eq_of_covers 6 _ (by decide +kernel) fun t hf y => ?_
  blk_simp
  rw [after0_6]; unfold outsAt0; frame_out
  exact resid_tile (blocks V c t) _ _ _ _ _ _ (by blk_simp [idx t] <;> omega) (by blk_simp [idx t] <;> omega) (by blk_simp [idx t] <;> omega)
    (fun i j h0 h1 h2 => by blk_point [iblk0, idx t] <;> omega) _ _ (fun i => by blk_point [iblk0, idx t])
    (fun i => by blk_point [iblk0, idx t])

end Cert.KernelIdeal.Region0
-- ==== Proof.Region1.lean ====
module

public import proofs.«01_k».proof.Proof.Rows
public import proofs.«01_k».proof.Proof.Gen.KernelIdeal.Frame
public import Idealize.ShloMosaic.Lib.Pipeline.ValueKit

@[expose] public section

set_option maxRecDepth 16384

noncomputable section

namespace Cert.KernelIdeal.Region1

open Idealize.ShloMosaic Idealize.ShloMosaic.TcCoe Idealize.SL.Sem Cert.KernelIdeal Cert.KernelIdeal.Gen Cert.Rows

variable (V : (c : Dev nD) → (b : Ref sig .tc) → Buf (Elt Ideal) ((c : Thread nD τ).loc b))

/-- The blocks that each grid step is given. -/
theorem idx : ∀ t : Fin cfg1.N, win1_0.index t = ![t.val, 0, 0] ∧ win1_1.index t = ![t.val, 0, 0]
    ∧ win1_2.index t = ![0, 0] ∧ win1_3.index t = ![0, 0] ∧ win1_4.index t = ![0, 0]
    ∧ win1_5.index t = ![0, 0] ∧ win1_6.index t = ![0, 0] ∧ win1_7.index t = ![0, 0] ∧ win1_8.index t = ![t.val, 0, 0] :=
  (by decide +kernel : ∀ t : Fin grid1.N, _)

/-- The selected row. -/
theorem pick_at (v0 : Vec Ideal S1x1x424 .i32) (v8 : Vec Ideal S1x576x768 .f32) (i : Fin 424) (j : Fin 768) :
    k1_pay2 (F := Ideal) v0 v8 (ix2 i j) = pick (v0 (ix3 0 0 i)) (fun k l => v8 (ix3 0 k l)) j := by
  pointwise [k1_pay2]
  rfl

/-- Its layer norm. -/
theorem norm_at (v0 : Vec Ideal S1x1x424 .i32) (v8 : Vec Ideal S1x576x768 .f32) (g b : Vec Ideal S1x768 .f32)
    (i : Fin 424) (j : Fin 768) :
    k1_pay3 (F := Ideal) v0 v8 g b (ix2 i j)
      = nrm (fun l => k1_pay2 (F := Ideal) v0 v8 (ix2 i l)) (fun l => g (ix2 0 l)) (fun l => b (ix2 0 l)) j := by
  pointwise [k1_pay3, nrm, mean]

/-- The row with the MLP of its layer norm added. -/
theorem mlp_at (v10 v38 : FVec Ideal S424x768 .f32) (v40 : FVec Ideal S768x3072 .f32) (v42 : Vec Ideal S1x3072 .f32)
    (v55 : Vec Ideal S3072x768 .f32) (v58 : Vec Ideal S1x768 .f32) (z : Fin 1) (i : Fin 424) (j : Fin 768) :
    k1_pay1 (F := Ideal) v10 v38 v40 v42 v55 v58 (ix3 z i j)
      = v10 (ix2 i j) + ((∑ k : Fin 3072, gel ((∑ l : Fin 768, v38 (ix2 i l) * v40 (ix2 l k)) + v42 (ix2 0 k)) * v55 (ix2 k j))
          + v58 (ix2 0 j)) := by
  pointwise [k1_pay1, gel]
  rfl

/-- What the kernel's result holds, of the arrays it reads. -/
def arrM (X : FVec Ideal S32x576x768 .f32) (I : IVec S32x1x512 32) (g b : FVec Ideal S1x768 .f32)
    (W : FVec Ideal S768x3072 .f32) (C : FVec Ideal S1x3072 .f32) (U : FVec Ideal S3072x768 .f32)
    (D : FVec Ideal S1x768 .f32) : FVec Ideal S32x424x768 .f32 :=
  fun i => mlp (pick (I (ix3 (i 0) 0 ⟨(i 1).val, (i 1).isLt.trans (by decide)⟩)) (fun k l => X (ix3 (i 0) k l)))
    (fun l => g (ix2 0 l)) (fun l => b (ix2 0 l)) (fun r l => W (ix2 r l)) (fun l => C (ix2 0 l))
    (fun r l => U (ix2 r l)) (fun l => D (ix2 0 l)) (i 2)

/-- A stored tile, read at the array's index it lands on. -/
theorem tile (X : FVec Ideal S32x576x768 .f32) (I : IVec S32x1x512 32) (g b : FVec Ideal S1x768 .f32)
    (W : FVec Ideal S768x3072 .f32) (C : FVec Ideal S1x3072 .f32) (U : FVec Ideal S3072x768 .f32) (D : FVec Ideal S1x768 .f32)
    (t : Nat) (v0 : Vec Ideal S1x1x424 .i32) (v8 : Vec Ideal S1x576x768 .f32) (g' b' d' : Vec Ideal S1x768 .f32)
    (w' : Vec Ideal S768x3072 .f32) (c' : Vec Ideal S1x3072 .f32) (u' : Vec Ideal S3072x768 .f32)
    (x : S1x424x768.Idx) (z : S32x424x768.Idx)
    (hz0 : (z 0 : ℕ) = t) (hz1 : (z 1 : ℕ) = x 1) (hz2 : (z 2 : ℕ) = x 2)
    (hI : ∀ (i : S1x1x424.Idx) (j : S32x1x512.Idx), (j 0 : ℕ) = t → (j 2 : ℕ) = i 2 → v0 i = I j)
    (hX : ∀ (i : S1x576x768.Idx) (j : S32x576x768.Idx), (j 0 : ℕ) = t → (j 1 : ℕ) = i 1 → (j 2 : ℕ) = i 2 → v8 i = X j)
    (hg : ∀ i, g' i = g i) (hb : ∀ i, b' i = b i) (hw : ∀ i, w' i = W i) (hc : ∀ i, c' i = C i) (hu : ∀ i, u' i = U i)
    (hd : ∀ i, d' i = D i) :
    k1_pay1 (F := Ideal) (k1_pay2 v0 v8) (k1_pay3 v0 v8 g' b') (k1_pay4 w') c' u' d' x = arrM X I g b W C U D z := by
  obtain rfl : g' = g := funext hg
  obtain rfl : b' = b := funext hb
  obtain rfl : w' = W := funext hw
  obtain rfl : c' = C := funext hc
  obtain rfl : u' = U := funext hu
  obtain rfl : d' = D := funext hd
  have e4 : ∀ r l, k1_pay4 (F := Ideal) w' (ix2 r l) = w' (ix2 r l) := fun r l => by pointwise [k1_pay4]
  idx_vars x
  idx_vars z
  rw [mlp_at]
  simp only [norm_at, pick_at, e4]
  rw [hI (ix3 0 0 x1) (ix3 z0 0 ⟨z1.val, z1.isLt.trans (by decide)⟩) hz0 hz1,
    show (fun (k : Fin 576) (l : Fin 768) => v8 (ix3 0 k l)) = fun k l => X (ix3 z0 k l) from
      funext fun k => funext fun l => hX (ix3 0 k l) (ix3 z0 k l) hz0 rfl rfl,
    show x2 = z2 from Fin.ext hz2.symm]
  rfl

set_option maxHeartbeats 400000 in
/-- The kernel's result. -/
theorem rows (c : Dev nD) : (dat1 V c).arrAt 8 cfg1.N
    = arrM (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7)) := by
  refine (dat1 V c).arrAt_eq_of_covers 8 _ (by decide +kernel) fun t hf y => ?_
  blk_simp
  rw [after1_8]
  frame_out
  refine tile _ _ _ _ _ _ _ _ t.val _ _ _ _ _ _ _ _ _ _ ?_ ?_ ?_ ?_ ?_ ?_ ?_ ?_ ?_ ?_ ?_
  · blk_simp [idx t]
  · blk_simp [idx t]
  · blk_simp [idx t]
  · exact fun i j h0 h2 => by pointwise; blk_ext! [iblk1, idx t] <;> omega
  · exact fun i j h0 h1 h2 => by blk_point [iblk1, idx t]
  · exact fun i => by blk_point [iblk1, idx t]
  · exact fun i => by blk_point [iblk1, idx t]
  · exact fun i => by blk_point [iblk1, idx t]
  · exact fun i => by blk_point [iblk1, idx t]
  · exact fun i => by blk_point [iblk1, idx t]
  · exact fun i => by blk_point [iblk1, idx t]

end Cert.KernelIdeal.Region1
-- ==== Proof.Host.lean ====
module

public import proofs.«01_k».proof.Proof.Gen.KernelIdeal.Frame
public import Idealize.ShloMosaic.Lib.Pipeline.ValueKit

@[expose] public section

set_option maxRecDepth 16384

noncomputable section

namespace Cert.KernelIdeal.Host

open Idealize.ShloMosaic Idealize.ShloMosaic.TcCoe Idealize.SL.Sem Cert.KernelIdeal Cert.KernelIdeal.Gen

/-- The queries, keys and values: the layer norm of `x` by `g` and `b`, projected by `w` and `c`. -/
def qkv (x : FVec Ideal S32x576x768 .f32) (g b : FVec Ideal S768 .f32) (w : FVec Ideal S2304x768 .f32)
    (c : FVec Ideal S2304 .f32) : FVec Ideal S32x576x2304 .f32 :=
  let mn : FVec Ideal S32x576x1 .f32 := Host.divf (broadcastInDim S32x576x1 ![0, 1] bcast_S32x576_S32x576x1_0_1
    (Host.reduceAdd x (constant S_ .f32 0x00000000#32) reducesTo_S32x576x768_S32x576_d2 h_S_))
    (broadcastInDim S32x576x1 ![] bcast_S_S32x576x1 (constant S_ .f32 0x44400000#32))
  let d : FVec Ideal S32x576x768 .f32 := subf x (broadcastInDim S32x576x768 ![0, 1, 2] bcast_S32x576x1_S32x576x768_0_1_2 mn)
  let v : FVec Ideal S32x576x1 .f32 := Host.divf (broadcastInDim S32x576x1 ![0, 1] bcast_S32x576_S32x576x1_0_1
    (Host.reduceAdd (mulf d d) (constant S_ .f32 0x00000000#32) reducesTo_S32x576x768_S32x576_d2 h_S_))
    (broadcastInDim S32x576x1 ![] bcast_S_S32x576x1 (constant S_ .f32 0x44400000#32))
  let n : FVec Ideal S32x576x768 .f32 := Host.divf d (broadcastInDim S32x576x768 ![0, 1, 2] bcast_S32x576x1_S32x576x768_0_1_2
    (Host.sqrt (addf v (broadcastInDim S32x576x1 ![] bcast_S_S32x576x1 (constant S_ .f32 0x3727C5AC#32)))))
  let y : FVec Ideal S32x576x768 .f32 := addf (mulf n (broadcastInDim S32x576x768 ![0, 1, 2] bcast_S1x1x768_S32x576x768_0_1_2
      (broadcastInDim S1x1x768 ![2] bcast_S768_S1x1x768_2 g)))
    (broadcastInDim S32x576x768 ![0, 1, 2] bcast_S1x1x768_S32x576x768_0_1_2 (broadcastInDim S1x1x768 ![2] bcast_S768_S1x1x768_2 b))
  addf (Host.dotGeneral dot_S32x576x768_S768x2304_S32x576x2304_2_0_01_1_n_n none y
      (transpose S768x2304 [1, 0] w transposes_S2304x768_S768x2304_1_0))
    (broadcastInDim S32x576x2304 ![0, 1, 2] bcast_S1x1x2304_S32x576x2304_0_1_2 (broadcastInDim S1x1x2304 ![2] bcast_S2304_S1x1x2304_2 c))

/-- The mean weight of each of the last 512 tokens, from the weights of the first 64. -/
def means (p : FVec Ideal S32x12x64x512 .f32) : FVec Ideal S32x512 .f32 :=
  Host.divf (Host.reduceAdd (Host.divf (Host.reduceAdd p (constant S_ .f32 0x00000000#32) reducesTo_S32x12x64x512_S32x12x512_d2 h_S_)
      (broadcastInDim S32x12x512 ![] bcast_S_S32x12x512 (constant S_ .f32 0x42800000#32)))
    (constant S_ .f32 0x00000000#32) reducesTo_S32x12x512_S32x512_d1 h_S_)
    (broadcastInDim S32x512 ![] bcast_S_S32x512 (constant S_ .f32 0x41400000#32))

/-- The weights of the first 64 tokens for the last 512, from the exponentials. -/
def tmpl (e : FVec Ideal S32x12x576x576 .f32) : FVec Ideal S32x12x64x512 .f32 :=
  extractStridedSlice S32x12x64x512 ![0, 0, 0, 64]
    (Host.divf (extractStridedSlice S32x12x64x576 ![0, 0, 0, 0] e slices_S32x12x576x576_S32x12x64x576_0_0_0_0)
      (broadcastInDim S32x12x64x576 ![0, 1, 2, 3] bcast_S32x12x64x1_S32x12x64x576_0_1_2_3
        (extractStridedSlice S32x12x64x1 ![0, 0, 0, 0]
          (broadcastInDim S32x12x576x1 ![0, 1, 2] bcast_S32x12x576_S32x12x576x1_0_1_2
            (Host.reduceAdd e (constant S_ .f32 0x00000000#32) reducesTo_S32x12x576x576_S32x12x576_d3 h_S_))
          slices_S32x12x576x1_S32x12x64x1_0_0_0_0)))
    slices_S32x12x64x576_S32x12x64x512_0_0_0_64

/-- The numbers 0 to 255 of each row, in the order that sorts the row's words `v`. -/
def rank (v : FVec Ideal S32x256 .f32) : IVec S32x256 32 :=
  (Host.sort2 S32x256 1 comparator_f32_i32_d1 v (iotaInDim S32x256 32 1)).2

/-- The first 180 and the last 76 of them. -/
def keep (r : IVec S32x256 32) : IVec S32x180 32 := extractStridedSlice S32x180 ![0, 0] r slices_S32x256_S32x180_0_0
/-- The last 76 of the numbers. -/
def drop (r : IVec S32x256 32) : IVec S32x76 32 := extractStridedSlice S32x76 ![0, 180] r slices_S32x256_S32x76_0_180

/-- Of each row of `a` the entries that the numbers `i` name, counted from the row's end if negative, and the least
    word where a number is out of range. -/
def take180 (a : IVec S32x256 32) (i : IVec S32x180 32) : IVec S32x180 32 :=
  let j : IVec S32x180x1 32 := shapeCast S32x180x1 (select (cmpi .slt i (broadcastInDim S32x180 ![] bcast_S_S32x180 (constantI S_ 32 0#32)))
    (addi i (broadcastInDim S32x180 ![] bcast_S_S32x180 (constantI S_ 32 256#32))) i) shapeCasts_S32x180_S32x180x1
  select (Host.reduce IntOp.andi (andi (cmpi .sge j (broadcastInDim S32x180x1 ![] bcast_S_S32x180x1 (constantI S_ 32 0#32)))
      (cmpi .sle j (broadcastInDim S32x180x1 ![0, 1, 2] bcast_S1x1x1_S32x180x1_0_1_2
        (broadcastInDim S1x1x1 ![2] bcast_S1_S1x1x1_2 (constantI S1 32 255#32))))) (constantI S_ 1 1#1) reducesTo_S32x180x1_S32x180_d2 h_S_)
    (Host.gather gather_S32x256_S32x180x1_S32x180_n_1_0_0_1_2_11 a j)
    (broadcastInDim S32x180 ![] bcast_S_S32x180 (constantI S_ 32 2147483648#32))

/-- Of each row of `a` the entries that the numbers `i` name, counted from the row's end if negative, and the least
    word where a number is out of range. -/
def take76 (a : IVec S32x256 32) (i : IVec S32x76 32) : IVec S32x76 32 :=
  let j : IVec S32x76x1 32 := shapeCast S32x76x1 (select (cmpi .slt i (broadcastInDim S32x76 ![] bcast_S_S32x76 (constantI S_ 32 0#32)))
    (addi i (broadcastInDim S32x76 ![] bcast_S_S32x76 (constantI S_ 32 256#32))) i) shapeCasts_S32x76_S32x76x1
  select (Host.reduce IntOp.andi (andi (cmpi .sge j (broadcastInDim S32x76x1 ![] bcast_S_S32x76x1 (constantI S_ 32 0#32)))
      (cmpi .sle j (broadcastInDim S32x76x1 ![0, 1, 2] bcast_S1x1x1_S32x76x1_0_1_2
        (broadcastInDim S1x1x1 ![2] bcast_S1_S1x1x1_2 (constantI S1 32 255#32))))) (constantI S_ 1 1#1) reducesTo_S32x76x1_S32x76_d2 h_S_)
    (Host.gather gather_S32x256_S32x76x1_S32x76_n_1_0_0_1_2_11 a j)
    (broadcastInDim S32x76 ![] bcast_S_S32x76 (constantI S_ 32 2147483648#32))

/-- The 424 rows the second kernel selects, and zeros after them. -/
def rowNums (i k : IVec S32x180 32) : IVec S32x424 32 :=
  concatenate S32x424 1
    [⟨S32x64, (broadcastInDim S32x64 ![1] bcast_S64_S32x64_1 (iotaInDim S64 32 0) : IVec S32x64 32)⟩,
     ⟨S32x180, (addi i (broadcastInDim S32x180 ![] bcast_S_S32x180 (constantI S_ 32 64#32)) : IVec S32x180 32)⟩,
     ⟨S32x180, (addi (addi k (broadcastInDim S32x180 ![] bcast_S_S32x180 (constantI S_ 32 64#32)))
        (broadcastInDim S32x180 ![] bcast_S_S32x180 (constantI S_ 32 256#32)) : IVec S32x180 32)⟩]
    concatenates_S32x64_S32x180_S32x180_S32x424_d1
/-- The row numbers with 88 zeros after them. -/
def padded (r : IVec S32x424 32) : IVec S32x512 32 :=
  pad S32x512 ![0, 0] ![0, 88] ![0, 0] r (constantI S_ 32 0#32) pads_S32x424_S32x512_000_0880 h_S_

/-! What each stretch of host operations leaves in the buffers read later. -/

/-- The first stretch leaves the queries, keys and values. -/
theorem s0_28 (σ : Valuation τ sig (Elt Ideal)) : StableHlo.after hostOps0 σ (Proc.devRef .tc main_v28)
    = qkv (σ (Proc.devRef .tc main_arg0)) (σ (Proc.devRef .tc main_arg4)) (σ (Proc.devRef .tc main_arg5))
        (σ (Proc.devRef .tc main_arg6)) (σ (Proc.devRef .tc main_arg7)) := by
  simp only [hostOps0]
  after_results_simp
  rfl

/-- The second stretch leaves the mean weights. -/
theorem s1_46 (σ : Valuation τ sig (Elt Ideal)) : StableHlo.after hostOps1 σ (Proc.devRef .tc main_v46)
    = means (tmpl (σ (Proc.devRef .tc main_v31_0))) := by
  simp only [hostOps1]
  after_results_simp
  rfl

/-- The first sort leaves the order of its operand. -/
theorem s1_1 (σ : Valuation τ sig (Elt Ideal)) : StableHlo.after hostOps1_1 σ (Proc.devRef .tc main_v50)
    = rank (σ (Proc.devRef .tc main_v49)) := by
  simp only [hostOps1_1]
  after_results_simp
  rfl

/-- The first stretch leaves the projection transposed. -/
theorem s0_29 (σ : Valuation τ sig (Elt Ideal)) : StableHlo.after hostOps0 σ (Proc.devRef .tc main_v29)
    = transpose S768x768 [1, 0] (σ (Proc.devRef .tc main_arg8)) transposes_S768x768_S768x768_1_0 := by
  simp only [hostOps0]
  after_results_simp

/-- The first stretch leaves the projection's bias as a row. -/
theorem s0_30 (σ : Valuation τ sig (Elt Ideal)) : StableHlo.after hostOps0 σ (Proc.devRef .tc main_v30)
    = shapeCast S1x768 (σ (Proc.devRef .tc main_arg9)) shapeCasts_S768_S1x768 := by
  simp only [hostOps0]
  after_results_simp
  rfl

/-- The second stretch leaves the last 256 mean weights. -/
theorem s1_48 (σ : Valuation τ sig (Elt Ideal)) : StableHlo.after hostOps1 σ (Proc.devRef .tc main_v48)
    = extractStridedSlice S32x256 ![0, 256] (means (tmpl (σ (Proc.devRef .tc main_v31_0)))) slices_S32x512_S32x256_0_256 := by
  simp only [hostOps1]
  after_results_simp
  rfl

/-- The second stretch leaves the first 256 mean weights negated. -/
theorem s1_49 (σ : Valuation τ sig (Elt Ideal)) : StableHlo.after hostOps1 σ (Proc.devRef .tc main_v49)
    = Host.negf (F := Ideal) (φ := .f32) (extractStridedSlice S32x256 ![0, 0] (means (tmpl (σ (Proc.devRef .tc main_v31_0)))) slices_S32x512_S32x256_0_0) := by
  simp only [hostOps1]
  after_results_simp
  rfl

/-- The next line negates the last 256. -/
theorem s2 (σ : Valuation τ sig (Elt Ideal)) : StableHlo.after hostOps1_2 σ (Proc.devRef .tc main_v51)
    = Host.negf (F := Ideal) (φ := .f32) (s := S32x256) (σ (Proc.devRef .tc main_v48)) := by
  simp only [hostOps1_2]
  after_results_simp

/-- The second sort leaves the order of its operand. -/
theorem s3 (σ : Valuation τ sig (Elt Ideal)) : StableHlo.after hostOps1_3 σ (Proc.devRef .tc main_v52)
    = rank (σ (Proc.devRef .tc main_v51)) := by
  simp only [hostOps1_3]
  after_results_simp
  rfl

/-- The first 180 of the first order. -/
theorem s4_53 (σ : Valuation τ sig (Elt Ideal)) : StableHlo.after hostOps1_4 σ (Proc.devRef .tc main_v53)
    = keep (σ (Proc.devRef .tc main_v50)) := by
  simp only [hostOps1_4]
  after_results_simp
  rfl

/-- The first 180 of the second order. -/
theorem s4_54 (σ : Valuation τ sig (Elt Ideal)) : StableHlo.after hostOps1_4 σ (Proc.devRef .tc main_v54)
    = keep (σ (Proc.devRef .tc main_v52)) := by
  simp only [hostOps1_4]
  after_results_simp
  rfl

/-- The kept entries of the first index array. -/
theorem s5 (σ : Valuation τ sig (Elt Ideal)) : StableHlo.after hostOps1_5 σ (Proc.devRef .tc main_v55)
    = take180 (σ (Proc.devRef .tc main_arg2)) (σ (Proc.devRef .tc main_v53)) := by
  simp only [hostOps1_5]
  after_results_simp
  rfl

/-- The last 76 of the first order. -/
theorem s6 (σ : Valuation τ sig (Elt Ideal)) : StableHlo.after hostOps1_6 σ (Proc.devRef .tc main_v56)
    = drop (σ (Proc.devRef .tc main_v50)) := by
  simp only [hostOps1_6]
  after_results_simp
  rfl

/-- The removed entries of the first index array. -/
theorem s7 (σ : Valuation τ sig (Elt Ideal)) : StableHlo.after hostOps1_7 σ (Proc.devRef .tc main_v57)
    = take76 (σ (Proc.devRef .tc main_arg2)) (σ (Proc.devRef .tc main_v56)) := by
  simp only [hostOps1_7]
  after_results_simp
  rfl

/-- The kept entries of the second index array. -/
theorem s8 (σ : Valuation τ sig (Elt Ideal)) : StableHlo.after hostOps1_8 σ (Proc.devRef .tc main_v58)
    = take180 (σ (Proc.devRef .tc main_arg3)) (σ (Proc.devRef .tc main_v54)) := by
  simp only [hostOps1_8]
  after_results_simp
  rfl

/-- The last 76 of the second order. -/
theorem s9 (σ : Valuation τ sig (Elt Ideal)) : StableHlo.after hostOps1_9 σ (Proc.devRef .tc main_v59)
    = drop (σ (Proc.devRef .tc main_v52)) := by
  simp only [hostOps1_9]
  after_results_simp
  rfl

/-- The removed entries of the second index array. -/
theorem s10 (σ : Valuation τ sig (Elt Ideal)) : StableHlo.after hostOps1_10 σ (Proc.devRef .tc main_v60)
    = take76 (σ (Proc.devRef .tc main_arg3)) (σ (Proc.devRef .tc main_v59)) := by
  simp only [hostOps1_10]
  after_results_simp
  rfl

/-- The numbers of the 424 rows. -/
theorem s11 (σ : Valuation τ sig (Elt Ideal)) : StableHlo.after hostOps1_11 σ (Proc.devRef .tc main_v69)
    = rowNums (σ (Proc.devRef .tc main_v53)) (σ (Proc.devRef .tc main_v54)) := by
  simp only [hostOps1_11]
  after_results_simp
  rfl

/-- The zero they are padded with. -/
theorem s11c (σ : Valuation τ sig (Elt Ideal)) : StableHlo.after hostOps1_11 σ (Proc.devRef .tc main_c_11)
    = (constantI S_ 32 0#32 : IVec S_ 32) := by
  simp only [hostOps1_11]
  after_results_simp

/-- The padded numbers. -/
theorem s12 (σ : Valuation τ sig (Elt Ideal)) (h : σ (Proc.devRef .tc main_c_11) = (constantI S_ 32 0#32 : IVec S_ 32)) :
    StableHlo.after hostOps1_12 σ (Proc.devRef .tc main_v70) = padded (σ (Proc.devRef .tc main_v69)) := by
  simp only [hostOps1_12]
  after_results_simp
  unfold padded
  rw [← h]
  rfl

/-- The padded numbers, one row to a batch entry. -/
theorem s13_71 (σ : Valuation τ sig (Elt Ideal)) : StableHlo.after hostOps1_13 σ (Proc.devRef .tc main_v71)
    = shapeCast S32x1x512 (σ (Proc.devRef .tc main_v70)) shapeCasts_S32x512_S32x1x512 := by
  simp only [hostOps1_13]
  after_results_simp
  rfl

/-- The second norm's scale as a row. -/
theorem s13_72 (σ : Valuation τ sig (Elt Ideal)) : StableHlo.after hostOps1_13 σ (Proc.devRef .tc main_v72)
    = shapeCast S1x768 (σ (Proc.devRef .tc main_arg10)) shapeCasts_S768_S1x768 := by
  simp only [hostOps1_13]
  after_results_simp
  rfl

/-- The second norm's shift as a row. -/
theorem s13_73 (σ : Valuation τ sig (Elt Ideal)) : StableHlo.after hostOps1_13 σ (Proc.devRef .tc main_v73)
    = shapeCast S1x768 (σ (Proc.devRef .tc main_arg11)) shapeCasts_S768_S1x768 := by
  simp only [hostOps1_13]
  after_results_simp
  rfl

/-- The first layer's matrix transposed. -/
theorem s13_74 (σ : Valuation τ sig (Elt Ideal)) : StableHlo.after hostOps1_13 σ (Proc.devRef .tc main_v74)
    = transpose S768x3072 [1, 0] (σ (Proc.devRef .tc main_arg12)) transposes_S3072x768_S768x3072_1_0 := by
  simp only [hostOps1_13]
  after_results_simp

/-- The first layer's bias as a row. -/
theorem s13_75 (σ : Valuation τ sig (Elt Ideal)) : StableHlo.after hostOps1_13 σ (Proc.devRef .tc main_v75)
    = shapeCast S1x3072 (σ (Proc.devRef .tc main_arg13)) shapeCasts_S3072_S1x3072 := by
  simp only [hostOps1_13]
  after_results_simp
  rfl

/-- The second layer's matrix transposed. -/
theorem s13_76 (σ : Valuation τ sig (Elt Ideal)) : StableHlo.after hostOps1_13 σ (Proc.devRef .tc main_v76)
    = transpose S3072x768 [1, 0] (σ (Proc.devRef .tc main_arg14)) transposes_S768x3072_S3072x768_1_0 := by
  simp only [hostOps1_13]
  after_results_simp

/-- The second layer's bias as a row. -/
theorem s13_77 (σ : Valuation τ sig (Elt Ideal)) : StableHlo.after hostOps1_13 σ (Proc.devRef .tc main_v77)
    = shapeCast S1x768 (σ (Proc.devRef .tc main_arg15)) shapeCasts_S768_S1x768 := by
  simp only [hostOps1_13]
  after_results_simp
  rfl

end Cert.KernelIdeal.Host
-- ==== Proof.Values.lean ====
module

public import proofs.«01_k».proof.Proof.Region0
public import proofs.«01_k».proof.Proof.Region1
public import proofs.«01_k».proof.Proof.Host

@[expose] public section

set_option maxRecDepth 16384

noncomputable section

namespace Cert.KernelIdeal.Values

open Idealize.ShloMosaic Idealize.ShloMosaic.TcCoe Idealize.SL Idealize.SL.Sem Cert.KernelIdeal Cert.KernelIdeal.Gen
open Cert.KernelIdeal.Host

variable (m : (ℓ : Loc nD τ sig) → Buf (Elt Ideal) ℓ) (ρ : Dev nD → PrngReg) (c : Dev nD)

/-! The values of @main of the arguments, in order. -/

/-- Queries, keys and values. -/
def vQ : FVec Ideal S32x576x2304 .f32 :=
  qkv (m ((c : Thread nD τ).loc main_arg0)) (m ((c : Thread nD τ).loc main_arg4)) (m ((c : Thread nD τ).loc main_arg5))
    (m ((c : Thread nD τ).loc main_arg6)) (m ((c : Thread nD τ).loc main_arg7))
/-- The residual rows after attention. -/
def vX : FVec Ideal S32x576x768 .f32 :=
  Region0.arrX (m ((c : Thread nD τ).loc main_arg0)) (vQ m c)
    (transpose S768x768 [1, 0] (m ((c : Thread nD τ).loc main_arg8)) transposes_S768x768_S768x768_1_0)
    (shapeCast S1x768 (m ((c : Thread nD τ).loc main_arg9)) shapeCasts_S768_S1x768)
/-- The mean weights. -/
def vM : FVec Ideal S32x512 .f32 := means (tmpl (Region0.arrE (vQ m c)))
/-- The order of the first 256 of them, and of the others. -/
def vT : IVec S32x256 32 :=
  rank (Host.negf (F := Ideal) (φ := .f32) (extractStridedSlice S32x256 ![0, 0] (vM m c) slices_S32x512_S32x256_0_0))
/-- The order of the last 256. -/
def vS : IVec S32x256 32 :=
  rank (Host.negf (F := Ideal) (φ := .f32) (extractStridedSlice S32x256 ![0, 256] (vM m c) slices_S32x512_S32x256_0_256))
/-- The first result. -/
def vO : FVec Ideal S32x424x768 .f32 :=
  Region1.arrM (vX m c) (shapeCast S32x1x512 (padded (rowNums (keep (vT m c)) (keep (vS m c)))) shapeCasts_S32x512_S32x1x512)
    (shapeCast S1x768 (m ((c : Thread nD τ).loc main_arg10)) shapeCasts_S768_S1x768)
    (shapeCast S1x768 (m ((c : Thread nD τ).loc main_arg11)) shapeCasts_S768_S1x768)
    (transpose S768x3072 [1, 0] (m ((c : Thread nD τ).loc main_arg12)) transposes_S3072x768_S768x3072_1_0)
    (shapeCast S1x3072 (m ((c : Thread nD τ).loc main_arg13)) shapeCasts_S3072_S1x3072)
    (transpose S3072x768 [1, 0] (m ((c : Thread nD τ).loc main_arg14)) transposes_S768x3072_S3072x768_1_0)
    (shapeCast S1x768 (m ((c : Thread nD τ).loc main_arg15)) shapeCasts_S768_S1x768)

/-! What the buffers hold at the boundaries between the stretches. -/

/-- The queries, keys and values before the first kernel. -/
theorem q1 : W1 m ρ c (Proc.devRef .tc main_v28) = vQ m c := s0_28 (W0 m ρ c)

/-- The exponentials after it. -/
theorem e2 : W2 m ρ c (Proc.devRef .tc main_v31_0) = Region0.arrE (vQ m c) :=
  (W2_arr m ρ c 4).trans ((Region0.exps (V1 m ρ) c).trans (congrArg Region0.arrE (q1 m ρ c)))

/-- The weights after it. -/
theorem p2 : W2 m ρ c (Proc.devRef .tc main_v31_1) = Region0.arrP (vQ m c) :=
  (W2_arr m ρ c 5).trans ((Region0.weights (V1 m ρ) c).trans (congrArg Region0.arrP (q1 m ρ c)))

/-- The residual rows after it. -/
theorem x2 : W2 m ρ c (Proc.devRef .tc main_v31_2) = vX m c := by
  refine (W2_arr m ρ c 6).trans ((Region0.resid (V1 m ρ) c).trans ?_)
  have h0 : V1 m ρ c (Pipeline.arrRef spec0 0) = m ((c : Thread nD τ).loc main_arg0) := W1_args m ρ c main_arg0 (by decide)
  have h1 : V1 m ρ c (Pipeline.arrRef spec0 1) = vQ m c := q1 m ρ c
  have h2 : V1 m ρ c (Pipeline.arrRef spec0 2) = _ := s0_29 (W0 m ρ c)
  have h3 : V1 m ρ c (Pipeline.arrRef spec0 3) = _ := s0_30 (W0 m ρ c)
  rw [h0, h1, h2, h3]
  rfl

/-- The first 256 mean weights negated. -/
theorem a3 : W3 m ρ c (Proc.devRef .tc main_v49)
    = Host.negf (F := Ideal) (φ := .f32) (extractStridedSlice S32x256 ![0, 0] (vM m c) slices_S32x512_S32x256_0_0) :=
  (s1_49 (W2 m ρ c)).trans (by rw [e2]; rfl)

/-- The last 256 mean weights. -/
theorem b3 : W3 m ρ c (Proc.devRef .tc main_v48) = extractStridedSlice S32x256 ![0, 256] (vM m c) slices_S32x512_S32x256_0_256 :=
  (s1_48 (W2 m ρ c)).trans (by rw [e2]; rfl)

/-- The first order. -/
theorem t4 : W4 m ρ c (Proc.devRef .tc main_v50) = vT m c :=
  (s1_1 (W3 m ρ c)).trans (by rw [a3]; rfl)

/-- The last 256 mean weights negated. -/
theorem b5 : W5 m ρ c (Proc.devRef .tc main_v51)
    = Host.negf (F := Ideal) (φ := .f32) (extractStridedSlice S32x256 ![0, 256] (vM m c) slices_S32x512_S32x256_0_256) :=
  (s2 (W4 m ρ c)).trans (by rw [W4_of m ρ c main_v48 (by decide), b3])

/-- The second order. -/
theorem s6' : W6 m ρ c (Proc.devRef .tc main_v52) = vS m c :=
  (s3 (W5 m ρ c)).trans (by rw [b5]; rfl)

/-- The first order is still there. -/
theorem t6 : W6 m ρ c (Proc.devRef .tc main_v50) = vT m c :=
  (W6_of m ρ c main_v50 (by decide)).trans <|
  (W5_of m ρ c main_v50 (by decide)).trans <| t4 m ρ c

/-- The kept numbers of the first order. -/
theorem i7 : W7 m ρ c (Proc.devRef .tc main_v53) = keep (vT m c) :=
  (s4_53 (W6 m ρ c)).trans (by rw [t6])

/-- The kept numbers of the second order. -/
theorem k7 : W7 m ρ c (Proc.devRef .tc main_v54) = keep (vS m c) :=
  (s4_54 (W6 m ρ c)).trans (by rw [s6'])

/-- The kept entries of the first index array. -/
theorem r8 : W8 m ρ c (Proc.devRef .tc main_v55) = take180 (m ((c : Thread nD τ).loc main_arg2)) (keep (vT m c)) :=
  (s5 (W7 m ρ c)).trans (by rw [W7_args m ρ c main_arg2 (by decide), i7])

/-- The first order is still there. -/
theorem t8 : W8 m ρ c (Proc.devRef .tc main_v50) = vT m c :=
  (W8_of m ρ c main_v50 (by decide)).trans <|
  (W7_of m ρ c main_v50 (by decide)).trans <| t6 m ρ c

/-- The removed numbers of the first order. -/
theorem d9 : W9 m ρ c (Proc.devRef .tc main_v56) = drop (vT m c) :=
  (s6 (W8 m ρ c)).trans (by rw [t8])

/-- The removed entries of the first index array. -/
theorem r10 : W10 m ρ c (Proc.devRef .tc main_v57) = take76 (m ((c : Thread nD τ).loc main_arg2)) (drop (vT m c)) :=
  (s7 (W9 m ρ c)).trans (by rw [W9_args m ρ c main_arg2 (by decide), d9])

/-- The kept numbers of the second order are still there. -/
theorem k10 : W10 m ρ c (Proc.devRef .tc main_v54) = keep (vS m c) :=
  (W10_of m ρ c main_v54 (by decide)).trans <|
  (W9_of m ρ c main_v54 (by decide)).trans <| (W8_of m ρ c main_v54 (by decide)).trans <| k7 m ρ c

/-- The kept entries of the second index array. -/
theorem r11 : W11 m ρ c (Proc.devRef .tc main_v58) = take180 (m ((c : Thread nD τ).loc main_arg3)) (keep (vS m c)) :=
  (s8 (W10 m ρ c)).trans (by rw [W10_args m ρ c main_arg3 (by decide), k10])

/-- The second order is still there. -/
theorem s11' : W11 m ρ c (Proc.devRef .tc main_v52) = vS m c :=
  (W11_of m ρ c main_v52 (by decide)).trans <|
  (W10_of m ρ c main_v52 (by decide)).trans <| (W9_of m ρ c main_v52 (by decide)).trans <| (W8_of m ρ c main_v52 (by decide)).trans <|
  (W7_of m ρ c main_v52 (by decide)).trans <| s6' m ρ c

/-- The removed numbers of the second order. -/
theorem d12 : W12 m ρ c (Proc.devRef .tc main_v59) = drop (vS m c) :=
  (s9 (W11 m ρ c)).trans (by rw [s11'])

/-- The removed entries of the second index array. -/
theorem r13 : W13 m ρ c (Proc.devRef .tc main_v60) = take76 (m ((c : Thread nD τ).loc main_arg3)) (drop (vS m c)) :=
  (s10 (W12 m ρ c)).trans (by rw [W12_args m ρ c main_arg3 (by decide), d12])

/-- The kept numbers of the second order are still there. -/
theorem k13 : W13 m ρ c (Proc.devRef .tc main_v54) = keep (vS m c) :=
  (W13_of m ρ c main_v54 (by decide)).trans <|
  (W12_of m ρ c main_v54 (by decide)).trans <| (W11_of m ρ c main_v54 (by decide)).trans <| k10 m ρ c

/-- The kept numbers of the first order are still there. -/
theorem i13 : W13 m ρ c (Proc.devRef .tc main_v53) = keep (vT m c) :=
  (W13_of m ρ c main_v53 (by decide)).trans <|
  (W12_of m ρ c main_v53 (by decide)).trans <| (W11_of m ρ c main_v53 (by decide)).trans <| (W10_of m ρ c main_v53 (by decide)).trans <|
  (W9_of m ρ c main_v53 (by decide)).trans <| (W8_of m ρ c main_v53 (by decide)).trans <| i7 m ρ c

/-- The numbers of the 424 rows. -/
theorem n14 : W14 m ρ c (Proc.devRef .tc main_v69) = rowNums (keep (vT m c)) (keep (vS m c)) :=
  (s11 (W13 m ρ c)).trans (by rw [i13, k13])

/-- The padded numbers. -/
theorem n15 : W15 m ρ c (Proc.devRef .tc main_v70) = padded (rowNums (keep (vT m c)) (keep (vS m c))) :=
  (s12 (W14 m ρ c) (s11c (W13 m ρ c))).trans (by rw [n14])

/-- The residual rows before the second kernel. -/
theorem x16 : W16 m ρ c (Proc.devRef .tc main_v31_2) = vX m c :=
  (W16_of m ρ c main_v31_2 (by decide)).trans <|
  (W15_of m ρ c main_v31_2 (by decide)).trans <| (W14_of m ρ c main_v31_2 (by decide)).trans <| (W13_of m ρ c main_v31_2 (by decide)).trans <|
  (W12_of m ρ c main_v31_2 (by decide)).trans <| (W11_of m ρ c main_v31_2 (by decide)).trans <| (W10_of m ρ c main_v31_2 (by decide)).trans <|
  (W9_of m ρ c main_v31_2 (by decide)).trans <| (W8_of m ρ c main_v31_2 (by decide)).trans <| (W7_of m ρ c main_v31_2 (by decide)).trans <|
  (W6_of m ρ c main_v31_2 (by decide)).trans <| (W5_of m ρ c main_v31_2 (by decide)).trans <| (W4_of m ρ c main_v31_2 (by decide)).trans <|
  (W3_of m ρ c main_v31_2 (by decide)).trans <| x2 m ρ c

/-- Equal operands give equal results of the second kernel. -/
theorem arrM_congr {X X' : FVec Ideal S32x576x768 .f32} {I I' : IVec S32x1x512 32} {g g' b b' d d' : FVec Ideal S1x768 .f32}
    {W W' : FVec Ideal S768x3072 .f32} {C C' : FVec Ideal S1x3072 .f32} {U U' : FVec Ideal S3072x768 .f32}
    (h0 : X = X') (h1 : I = I') (h2 : g = g') (h3 : b = b') (h4 : W = W') (h5 : C = C') (h6 : U = U') (h7 : d = d') :
    Region1.arrM X I g b W C U d = Region1.arrM X' I' g' b' W' C' U' d' := by
  rw [h0, h1, h2, h3, h4, h5, h6, h7]

/-- The first result at the end. -/
theorem o17 : W17 m ρ c (Proc.devRef .tc main_v78) = vO m c := by
  refine (W17_arr m ρ c 8).trans ((Region1.rows (V16 m ρ) c).trans ?_)
  have h0 : V16 m ρ c (Pipeline.arrRef spec1 0) = vX m c := x16 m ρ c
  have h1 : V16 m ρ c (Pipeline.arrRef spec1 1) = _ := (s13_71 (W15 m ρ c)).trans (by rw [n15])
  have h2 : V16 m ρ c (Pipeline.arrRef spec1 2) = _ := (s13_72 (W15 m ρ c)).trans (by rw [W15_args m ρ c main_arg10 (by decide)])
  have h3 : V16 m ρ c (Pipeline.arrRef spec1 3) = _ := (s13_73 (W15 m ρ c)).trans (by rw [W15_args m ρ c main_arg11 (by decide)])
  have h4 : V16 m ρ c (Pipeline.arrRef spec1 4) = _ := (s13_74 (W15 m ρ c)).trans (by rw [W15_args m ρ c main_arg12 (by decide)])
  have h5 : V16 m ρ c (Pipeline.arrRef spec1 5) = _ := (s13_75 (W15 m ρ c)).trans (by rw [W15_args m ρ c main_arg13 (by decide)])
  have h6 : V16 m ρ c (Pipeline.arrRef spec1 6) = _ := (s13_76 (W15 m ρ c)).trans (by rw [W15_args m ρ c main_arg14 (by decide)])
  have h7 : V16 m ρ c (Pipeline.arrRef spec1 7) = _ := (s13_77 (W15 m ρ c)).trans (by rw [W15_args m ρ c main_arg15 (by decide)])
  exact arrM_congr h0 h1 h2 h3 h4 h5 h6 h7

/-! The other results keep what the stretch that writes them leaves. -/

/-- The weights at the end. -/
theorem p17 : W17 m ρ c (Proc.devRef .tc main_v31_1) = Region0.arrP (vQ m c) :=
  (W17_of m ρ c main_v31_1 (by decide)).trans <|
  (W16_of m ρ c main_v31_1 (by decide)).trans <| (W15_of m ρ c main_v31_1 (by decide)).trans <| (W14_of m ρ c main_v31_1 (by decide)).trans <|
  (W13_of m ρ c main_v31_1 (by decide)).trans <| (W12_of m ρ c main_v31_1 (by decide)).trans <| (W11_of m ρ c main_v31_1 (by decide)).trans <|
  (W10_of m ρ c main_v31_1 (by decide)).trans <| (W9_of m ρ c main_v31_1 (by decide)).trans <| (W8_of m ρ c main_v31_1 (by decide)).trans <|
  (W7_of m ρ c main_v31_1 (by decide)).trans <| (W6_of m ρ c main_v31_1 (by decide)).trans <| (W5_of m ρ c main_v31_1 (by decide)).trans <|
  (W4_of m ρ c main_v31_1 (by decide)).trans <| (W3_of m ρ c main_v31_1 (by decide)).trans <| p2 m ρ c

/-- The kept entries of the first index array at the end. -/
theorem r17_55 : W17 m ρ c (Proc.devRef .tc main_v55) = take180 (m ((c : Thread nD τ).loc main_arg2)) (keep (vT m c)) :=
  (W17_of m ρ c main_v55 (by decide)).trans <|
  (W16_of m ρ c main_v55 (by decide)).trans <| (W15_of m ρ c main_v55 (by decide)).trans <| (W14_of m ρ c main_v55 (by decide)).trans <|
  (W13_of m ρ c main_v55 (by decide)).trans <| (W12_of m ρ c main_v55 (by decide)).trans <| (W11_of m ρ c main_v55 (by decide)).trans <|
  (W10_of m ρ c main_v55 (by decide)).trans <| (W9_of m ρ c main_v55 (by decide)).trans <| r8 m ρ c

/-- The removed entries of the first index array at the end. -/
theorem r17_57 : W17 m ρ c (Proc.devRef .tc main_v57) = take76 (m ((c : Thread nD τ).loc main_arg2)) (drop (vT m c)) :=
  (W17_of m ρ c main_v57 (by decide)).trans <|
  (W16_of m ρ c main_v57 (by decide)).trans <| (W15_of m ρ c main_v57 (by decide)).trans <| (W14_of m ρ c main_v57 (by decide)).trans <|
  (W13_of m ρ c main_v57 (by decide)).trans <| (W12_of m ρ c main_v57 (by decide)).trans <| (W11_of m ρ c main_v57 (by decide)).trans <|
  r10 m ρ c

/-- The kept entries of the second index array at the end. -/
theorem r17_58 : W17 m ρ c (Proc.devRef .tc main_v58) = take180 (m ((c : Thread nD τ).loc main_arg3)) (keep (vS m c)) :=
  (W17_of m ρ c main_v58 (by decide)).trans <|
  (W16_of m ρ c main_v58 (by decide)).trans <| (W15_of m ρ c main_v58 (by decide)).trans <| (W14_of m ρ c main_v58 (by decide)).trans <|
  (W13_of m ρ c main_v58 (by decide)).trans <| (W12_of m ρ c main_v58 (by decide)).trans <| r11 m ρ c

/-- The removed entries of the second index array at the end. -/
theorem r17_60 : W17 m ρ c (Proc.devRef .tc main_v60) = take76 (m ((c : Thread nD τ).loc main_arg3)) (drop (vS m c)) :=
  (W17_of m ρ c main_v60 (by decide)).trans <|
  (W16_of m ρ c main_v60 (by decide)).trans <| (W15_of m ρ c main_v60 (by decide)).trans <| (W14_of m ρ c main_v60 (by decide)).trans <|
  r13 m ρ c

section
open Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

set_option backward.isDefEq.respectTransparency.types false in
/-- Every execution of @main from a memory with zero counters terminates with every array as the last boundary has it. -/
theorem launch : θ_run defs (onTc (τ := τ) (main (F := Ideal))) ⟨m, fun _ => 0, ρ⟩
    (fun r => ∀ c : Dev nD, ∀ b ∈ Pipeline.ucRefs τ sig, r.2.mem (((c : Thread nD τ)).1, b) = W17 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => h)

end

/-- Every execution of @main ends with the seven results at their values and the arguments as launched. -/
theorem run : θ_run defs (onTc (τ := τ) (main (F := Ideal))) ⟨m, fun _ => 0, ρ⟩ (fun r => ∀ c : Dev nD,
      r.2.mem ((c : Thread nD τ).loc main_v78) = vO m c
      ∧ r.2.mem ((c : Thread nD τ).loc main_arg1) = m ((c : Thread nD τ).loc main_arg1)
      ∧ r.2.mem ((c : Thread nD τ).loc main_v55) = take180 (m ((c : Thread nD τ).loc main_arg2)) (keep (vT m c))
      ∧ r.2.mem ((c : Thread nD τ).loc main_v58) = take180 (m ((c : Thread nD τ).loc main_arg3)) (keep (vS m c))
      ∧ r.2.mem ((c : Thread nD τ).loc main_v57) = take76 (m ((c : Thread nD τ).loc main_arg2)) (drop (vT m c))
      ∧ r.2.mem ((c : Thread nD τ).loc main_v60) = take76 (m ((c : Thread nD τ).loc main_arg3)) (drop (vS m c))
      ∧ r.2.mem ((c : Thread nD τ).loc main_v31_1) = Region0.arrP (vQ m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)) :=
  (θ_run defs _ _).mono (fun r h c =>
    have a : ∀ x ∈ argRefs, (Proc.devRef .tc x : DevRef τ sig) ∈ Pipeline.ucRefs τ sig →
        r.2.mem ((c : Thread nD τ).loc x) = m ((c : Thread nD τ).loc x) := fun x hx hu => (h c _ hu).trans (W17_args m ρ c x hx)
    ⟨(h c _ (mem_uc main_v78 (by decide))).trans (o17 m ρ c), a main_arg1 (by decide) (mem_uc main_arg1 (by decide)),
     (h c _ (mem_uc main_v55 (by decide))).trans (r17_55 m ρ c), (h c _ (mem_uc main_v58 (by decide))).trans (r17_58 m ρ c),
     (h c _ (mem_uc main_v57 (by decide))).trans (r17_57 m ρ c), (h c _ (mem_uc main_v60 (by decide))).trans (r17_60 m ρ c),
     (h c _ (mem_uc main_v31_1 (by decide))).trans (p17 m ρ c),
     a main_arg0 (by decide) (mem_uc main_arg0 (by decide)), a main_arg1 (by decide) (mem_uc main_arg1 (by decide)),
     a main_arg2 (by decide) (mem_uc main_arg2 (by decide)), a main_arg3 (by decide) (mem_uc main_arg3 (by decide)),
     a main_arg4 (by decide) (mem_uc main_arg4 (by decide)), a main_arg5 (by decide) (mem_uc main_arg5 (by decide)),
     a main_arg6 (by decide) (mem_uc main_arg6 (by decide)), a main_arg7 (by decide) (mem_uc main_arg7 (by decide)),
     a main_arg8 (by decide) (mem_uc main_arg8 (by decide)), a main_arg9 (by decide) (mem_uc main_arg9 (by decide)),
     a main_arg10 (by decide) (mem_uc main_arg10 (by decide)), a main_arg11 (by decide) (mem_uc main_arg11 (by decide)),
     a main_arg12 (by decide) (mem_uc main_arg12 (by decide)), a main_arg13 (by decide) (mem_uc main_arg13 (by decide)),
     a main_arg14 (by decide) (mem_uc main_arg14 (by decide)), a main_arg15 (by decide) (mem_uc main_arg15 (by decide))⟩) (launch m ρ)

end Cert.KernelIdeal.Values
-- ==== Proof.Nums.lean ====
module

public import proofs.«01_k».proof.Proof.Host
public import Idealize.ShloMosaic.Lib.Pipeline.ValueKit

@[expose] public section

set_option maxRecDepth 16384

noncomputable section

namespace Cert.KernelIdeal.Host

open Idealize.ShloMosaic Idealize.ShloMosaic.TcCoe Idealize.SL.Sem Cert.KernelIdeal Cert.KernelIdeal.Gen

/-- Ranked numbers are below 256. -/
theorem rank_lt (v : FVec Ideal S32x256 .f32) (i : S32x256.Idx) : (rank v i).toNat < 256 := by
  unfold rank Host.sort2
  rw [dif_pos (by decide)]
  have key : ∀ a : Fin 256, (BitVec.ofNat 32 a.val).toNat < 256 := fun a => by
    rw [BitVec.toNat_ofNat]; have := a.isLt; omega
  exact key _

/-- The number of row `r`. -/
theorem padded_at (i k : IVec S32x180 32) (b : Fin 32) (r : Fin 424) (n : ℕ)
    (hi : ∀ r, (i (ix2 b r)).toNat < 256) (hk : ∀ r, (k (ix2 b r)).toNat < 256)
    (h0 : r.val < 64 → n = r.val)
    (h1 : ∀ q : Fin 180, r.val = 64 + q.val → n = 64 + (i (ix2 b q)).toNat)
    (h2 : ∀ q : Fin 180, r.val = 244 + q.val → n = 320 + (k (ix2 b q)).toNat) :
    (shapeCast S32x1x512 (padded (rowNums i k)) shapeCasts_S32x512_S32x1x512 (ix3 b 0 ⟨r.val, by have := r.isLt; omega⟩)).toNat = n := by
  pointwise [padded, rowNums]
  by_cases c0 : r.val < 64
  · rw [dif_pos c0, h0 c0, BitVec.toNat_ofNat]
    omega
  rw [dif_neg c0]
  by_cases c1 : r.val - 64 < 180
  · have := hi ⟨r.val - 64, c1⟩
    rw [dif_pos c1, h1 ⟨r.val - 64, c1⟩ (by show r.val = 64 + (r.val - 64); omega)]
    show (i (ix2 b ⟨r.val - 64, c1⟩) + 64#32).toNat = _
    rw [BitVec.toNat_add, show (64#32).toNat = 64 from rfl]
    omega
  · have c2 : r.val - 64 - 180 < 180 := by have := r.isLt; omega
    have := hk ⟨r.val - 64 - 180, c2⟩
    rw [dif_neg c1, h2 ⟨r.val - 64 - 180, c2⟩ (by show r.val = 244 + (r.val - 64 - 180); omega)]
    show (k (ix2 b ⟨r.val - 64 - 180, c2⟩) + 64#32 + 256#32).toNat = _
    rw [BitVec.toNat_add, BitVec.toNat_add, show (64#32).toNat = 64 from rfl, show (256#32).toNat = 256 from rfl]
    omega

end Cert.KernelIdeal.Host
-- ==== Proof.RefMlp.lean ====
module

public import proofs.«01_k».proof.Proof.Rows
public import proofs.«01_k».proof.Proof.Gen.ReferenceIdeal.Run
public import Idealize.ShloMosaic.Lib.Pipeline.ValueKit

@[expose] public section

set_option maxRecDepth 16384

noncomputable section

namespace Cert.ReferenceIdeal.Mlp

open Idealize.ShloMosaic Idealize.ShloMosaic.TcCoe Idealize.SL.Sem Cert.ReferenceIdeal Cert.ReferenceIdeal.Gen
open Cert.ReferenceIdeal.Value Cert.Rows

/-- The row means. -/
def avg (A : FVec Ideal S32x424x768 .f32) : FVec Ideal S32x424x1 .f32 :=
  Host.divf (broadcastInDim S32x424x1 ![0, 1] bcast_S32x424_S32x424x1_0_1 (Host.reduceAdd A (constant S_ .f32 0x00000000#32) reducesTo_S32x424x768_S32x424_d2 h_S_)) (broadcastInDim S32x424x1 ![] bcast_S_S32x424x1 (constant S_ .f32 0x44400000#32))

/-- The rows less their means. -/
def dev (A : FVec Ideal S32x424x768 .f32) : FVec Ideal S32x424x768 .f32 :=
  subf A (broadcastInDim S32x424x768 ![0, 1, 2] bcast_S32x424x1_S32x424x768_0_1_2 (avg A))

/-- The hidden layer of the rows. -/
def hidden (A : FVec Ideal S32x424x768 .f32) (g b : FVec Ideal S768 .f32) (w : FVec Ideal S3072x768 .f32)
    (c : FVec Ideal S3072 .f32) : FVec Ideal S32x424x3072 .f32 :=
  addf (Host.dotGeneral dot_S32x424x768_S768x3072_S32x424x3072_2_0_01_1_n_n none (addf (mulf (Host.divf (subf A (broadcastInDim S32x424x768 ![0, 1, 2] bcast_S32x424x1_S32x424x768_0_1_2 (avg A))) (broadcastInDim S32x424x768 ![0, 1, 2] bcast_S32x424x1_S32x424x768_0_1_2 (Host.sqrt (addf (Host.divf (broadcastInDim S32x424x1 ![0, 1] bcast_S32x424_S32x424x1_0_1 (Host.reduceAdd (mulf (dev A) (dev A)) (constant S_ .f32 0x00000000#32) reducesTo_S32x424x768_S32x424_d2 h_S_)) (broadcastInDim S32x424x1 ![] bcast_S_S32x424x1 (constant S_ .f32 0x44400000#32))) (broadcastInDim S32x424x1 ![] bcast_S_S32x424x1 (constant S_ .f32 0x3727C5AC#32)))))) (broadcastInDim S32x424x768 ![0, 1, 2] bcast_S1x1x768_S32x424x768_0_1_2 (broadcastInDim S1x1x768 ![2] bcast_S768_S1x1x768_2 g))) (broadcastInDim S32x424x768 ![0, 1, 2] bcast_S1x1x768_S32x424x768_0_1_2 (broadcastInDim S1x1x768 ![2] bcast_S768_S1x1x768_2 b))) (transpose S768x3072 [1, 0] w transposes_S3072x768_S768x3072_1_0)) (broadcastInDim S32x424x3072 ![0, 1, 2] bcast_S1x1x3072_S32x424x3072_0_1_2 (broadcastInDim S1x1x3072 ![2] bcast_S3072_S1x1x3072_2 c))

/-- The rows with the second layer of their MLP added. -/
def result (A : FVec Ideal S32x424x768 .f32) (H : FVec Ideal S32x424x3072 .f32) (u : FVec Ideal S768x3072 .f32)
    (d : FVec Ideal S768 .f32) : FVec Ideal S32x424x768 .f32 :=
  addf A (addf (Host.dotGeneral dot_S32x424x3072_S3072x768_S32x424x768_2_0_01_1_n_n none (mulf (mulf (broadcastInDim S32x424x3072 ![] bcast_S_S32x424x3072 (constant S_ .f32 0x3F000000#32)) H) (Host.erfc (mulf (Host.negf H) (broadcastInDim S32x424x3072 ![] bcast_S_S32x424x3072 (constant S_ .f32 0x3F3504F3#32))))) (transpose S3072x768 [1, 0] u transposes_S768x3072_S3072x768_1_0)) (broadcastInDim S32x424x768 ![0, 1, 2] bcast_S1x1x768_S32x424x768_0_1_2 (broadcastInDim S1x1x768 ![2] bcast_S768_S1x1x768_2 d)))

/-- A row's mean. -/
theorem avg_at (A : FVec Ideal S32x424x768 .f32) (b : Fin 32) (i : Fin 424) :
    avg A (ix3 b i 0) = mean fun l => A (ix3 b i l) := by
  pointwise [avg]
  rfl

/-- An entry less its row's mean. -/
theorem dev_at (A : FVec Ideal S32x424x768 .f32) (b : Fin 32) (i : Fin 424) (j : Fin 768) :
    dev A (ix3 b i j) = A (ix3 b i j) - mean fun l => A (ix3 b i l) := by
  pointwise [dev]
  rw [← avg_at]

/-- A hidden entry depends on its row alone. -/
theorem hidden_at (A : FVec Ideal S32x424x768 .f32) (g b : FVec Ideal S768 .f32) (w : FVec Ideal S3072x768 .f32)
    (c : FVec Ideal S3072 .f32) (p : Fin 32) (i : Fin 424) (k : Fin 3072) :
    hidden A g b w c (ix3 p i k)
      = hid (fun l => A (ix3 p i l)) (fun l => g (ix1 l)) (fun l => b (ix1 l)) (fun r l => w (ix2 l r)) (fun l => c (ix1 l)) k := by
  pointwise [hidden]
  simp only [avg_at, dev_at]
  rfl

/-- An entry of the result, by the row's activations. -/
theorem result_at (A : FVec Ideal S32x424x768 .f32) (H : FVec Ideal S32x424x3072 .f32) (u : FVec Ideal S768x3072 .f32)
    (d : FVec Ideal S768 .f32) (p : Fin 32) (i : Fin 424) (j : Fin 768) :
    result A H u d (ix3 p i j) = A (ix3 p i j) + ((∑ k : Fin 3072, gel (H (ix3 p i k)) * u (ix2 j k)) + d (ix1 j)) := by
  pointwise [result]
  simp only [neg_mul, Ideal.erfc_neg]
  rfl

end Cert.ReferenceIdeal.Mlp
-- ==== Proof.RefTake.lean ====
module

public import proofs.«01_k».proof.Proof.Rows
public import proofs.«01_k».proof.Proof.Gen.ReferenceIdeal.Run
public import Idealize.ShloMosaic.Lib.Pipeline.ValueKit

@[expose] public section

set_option maxRecDepth 16384

noncomputable section

namespace Cert.ReferenceIdeal.Take

open Idealize.ShloMosaic Idealize.ShloMosaic.TcCoe Idealize.SL.Sem Cert.ReferenceIdeal Cert.ReferenceIdeal.Gen
open Cert.ReferenceIdeal.Value Cert.Rows

/-- The numbers as a column, counted from the row's end if negative. -/
def column (i : IVec S32x180 32) : IVec S32x180x1 32 :=
  let k : IVec S32x180x1 32 := broadcastInDim S32x180x1 ![0, 1] bcast_S32x180_S32x180x1_0_1 i
  select (cmpi .slt k (broadcastInDim S32x180x1 ![] bcast_S_S32x180x1 (constantI S_ 32 0#32)))
    (addi k (broadcastInDim S32x180x1 ![] bcast_S_S32x180x1 (constantI S_ 32 256#32))) k

/-- Whether each number is in range. -/
def inside (j : IVec S32x180x1 32) : IVec S32x180 1 :=
  Host.reduce IntOp.andi (andi (cmpi .sge j (broadcastInDim S32x180x1 ![] bcast_S_S32x180x1 (constantI S_ 32 0#32)))
    (cmpi .sle j (broadcastInDim S32x180x1 ![0, 1, 2] bcast_S1x1x1_S32x180x1_0_1_2
      (broadcastInDim S1x1x1 ![2] bcast_S1_S1x1x1_2 (constantI S1 32 255#32))))) (constantI S_ 1 1#1) reducesTo_S32x180x1_S32x180_d2 h_S_

/-- The rows of `S` that the numbers `j` name. -/
def rowsOf (S : FVec Ideal S32x256x768 .f32) (j : IVec S32x180x1 32) : FVec Ideal S32x180x768 .f32 :=
  select (broadcastInDim S32x180x768 ![0, 1] bcast_S32x180_S32x180x768_0_1 (inside j))
    (Host.gather gather_S32x256x768_S32x180x1_S32x180x768_2_1_0_0_1_2_11768 S j)
    (broadcastInDim S32x180x768 ![] bcast_S_S32x180x768 (constant S_ .f32 0x7FC00000#32))

/-- The first 64 rows, then those that `i` names of the next 256, then those that `k` names of the last 256. -/
def kept (X : FVec Ideal S32x576x768 .f32) (i k : IVec S32x180 32) : FVec Ideal S32x424x768 .f32 :=
  concatenate S32x424x768 1
    [⟨S32x64x768, (extractStridedSlice S32x64x768 ![0, 0, 0] X slices_S32x576x768_S32x64x768_0_0_0 : FVec Ideal S32x64x768 .f32)⟩,
     ⟨S32x180x768, rowsOf (extractStridedSlice S32x256x768 ![0, 64, 0] X slices_S32x576x768_S32x256x768_0_64_0) (column i)⟩,
     ⟨S32x180x768, rowsOf (extractStridedSlice S32x256x768 ![0, 320, 0] X slices_S32x576x768_S32x256x768_0_320_0) (column k)⟩]
    concatenates_S32x64x768_S32x180x768_S32x180x768_S32x424x768_d1

/-- A number below 256 is not negative. -/
theorem slt_zero (w : BitVec 32) (h : w.toNat < 256) : IntOp.cmpi .slt w 0#32 = 0#1 := by
  have : w.slt 0#32 = false := by
    rw [BitVec.slt_zero_eq_msb, BitVec.msb_eq_decide]; simp; omega
  simp [IntOp.cmpi, this]

/-- A number below 256 is at least zero. -/
theorem sge_zero (w : BitVec 32) (h : w.toNat < 256) : IntOp.cmpi .sge w 0#32 = 1#1 := by
  have : (0#32).sle w = true := by
    rw [BitVec.sle_eq_decide, BitVec.toInt_eq_toNat_of_lt (x := w) (by omega)]; simp
  simp [IntOp.cmpi, this]

/-- A number below 256 is at most 255. -/
theorem sle_255 (w : BitVec 32) (h : w.toNat < 256) : IntOp.cmpi .sle w 255#32 = 1#1 := by
  have : w.sle 255#32 = true := by
    rw [BitVec.sle_eq_decide, BitVec.toInt_eq_toNat_of_lt (by omega)]
    have : (255#32).toInt = 255 := rfl
    rw [this]; exact decide_eq_true (by omega)
  simp [IntOp.cmpi, this]

/-- A number in range stays as it is. -/
theorem column_at (i : IVec S32x180 32) (b : Fin 32) (r : Fin 180) (h : (i (ix2 b r)).toNat < 256) :
    column i (ix3 b r 0) = i (ix2 b r) := by
  pointwise [column]
  rw [slt_zero _ h]
  rfl

/-- The mask holds for a number in range. -/
theorem inside_at (j : IVec S32x180x1 32) (b : Fin 32) (r : Fin 180) (h : (j (ix3 b r 0)).toNat < 256) :
    inside j (ix2 b r) = 1#1 := by
  pointwise [inside]
  rw [Finset.univ_unique, Finset.fold_singleton]
  show IntOp.andi (IntOp.andi (IntOp.cmpi .sge (j (ix3 b r 0)) 0#32) (IntOp.cmpi .sle (j (ix3 b r 0)) 255#32)) 1#1 = 1#1
  rw [sge_zero _ h, sle_255 _ h]
  rfl

/-- The gather reads the row its number names. -/
theorem gather_at (S : FVec Ideal S32x256x768 .f32) (j : IVec S32x180x1 32) (b : Fin 32) (r : Fin 180) (l : Fin 768) (n : Fin 256)
    (h : (j (ix3 b r 0)).toNat = n.val) :
    Host.gather gather_S32x256x768_S32x180x1_S32x180x768_2_1_0_0_1_2_11768 S j (ix3 b r l) = S (ix3 b n l) := by
  unfold Host.gather
  refine congrArg S ?_
  have e : (j (ix3 b r 0)).toInt.toNat = n.val := by
    rw [BitVec.toInt_eq_toNat_of_lt (by have := n.isLt; omega)]; simpa using h
  funext a
  match a with
  | ⟨0, _⟩ => exact Fin.ext (by show 0 + b.val + 0 = b.val; omega)
  | ⟨1, _⟩ =>
    refine Fin.ext ?_
    show min (j _).toInt.toNat 255 + 0 + 0 = n.val
    have : ∀ q, q = ix3 b r 0 → min (j q).toInt.toNat 255 + 0 + 0 = n.val := by
      rintro q rfl; rw [e]; have := n.isLt; omega
    refine this _ ?_
    funext c
    match c with
    | ⟨0, _⟩ => rfl
    | ⟨1, _⟩ => rfl
    | ⟨2, _⟩ => rfl
  | ⟨2, _⟩ => exact Fin.ext (by show 0 + 0 + l.val = l.val; omega)

/-- So does the masked gather, for a number in range. -/
theorem rowsOf_at (S : FVec Ideal S32x256x768 .f32) (i : IVec S32x180 32) (b : Fin 32) (r : Fin 180) (l : Fin 768) (n : Fin 256)
    (h : (i (ix2 b r)).toNat = n.val) : rowsOf S (column i) (ix3 b r l) = S (ix3 b n l) := by
  have hl : (i (ix2 b r)).toNat < 256 := by have := n.isLt; omega
  have hc := column_at i b r hl
  pointwise [rowsOf]
  rw [inside_at _ b r (by rw [hc]; exact hl)]
  exact gather_at S _ b r l n (by rw [hc]; exact h)

/-- Row `r` of them is the row of `X` that its number names. -/
theorem kept_at (X : FVec Ideal S32x576x768 .f32) (i k : IVec S32x180 32) (b : Fin 32) (r : Fin 424) (l : Fin 768) (n : Fin 576)
    (hi : ∀ r, (i (ix2 b r)).toNat < 256) (hk : ∀ r, (k (ix2 b r)).toNat < 256)
    (h0 : r.val < 64 → n.val = r.val)
    (h1 : ∀ q : Fin 180, r.val = 64 + q.val → n.val = 64 + (i (ix2 b q)).toNat)
    (h2 : ∀ q : Fin 180, r.val = 244 + q.val → n.val = 320 + (k (ix2 b q)).toNat) :
    kept X i k (ix3 b r l) = X (ix3 b n l) := by
  pointwise [kept]
  by_cases c0 : r.val < 64
  · rw [dif_pos c0]
    exact congrArg (fun n => X (ix3 b n l)) (Fin.ext (h0 c0).symm)
  rw [dif_neg c0]
  by_cases c1 : r.val - 64 < 180
  · rw [dif_pos c1, rowsOf_at _ i b ⟨r.val - 64, c1⟩ l ⟨_, hi ⟨r.val - 64, c1⟩⟩ rfl]
    pointwise
    exact congrArg (fun n => X (ix3 b n l)) (Fin.ext (h1 ⟨r.val - 64, c1⟩ (by show r.val = 64 + (r.val - 64); omega)).symm)
  · have c2 : r.val - 64 - 180 < 180 := by have := r.isLt; omega
    rw [dif_neg c1, rowsOf_at _ k b ⟨r.val - 64 - 180, c2⟩ l ⟨_, hk ⟨r.val - 64 - 180, c2⟩⟩ rfl]
    pointwise
    exact congrArg (fun n => X (ix3 b n l))
      (Fin.ext (h2 ⟨r.val - 64 - 180, c2⟩ (by show r.val = 244 + (r.val - 64 - 180); omega)).symm)

end Cert.ReferenceIdeal.Take
-- ==== Proof.MatchOut.lean ====
module

public import proofs.«01_k».proof.Proof.Region1
public import proofs.«01_k».proof.Proof.Nums
public import proofs.«01_k».proof.Proof.RefMlp
public import proofs.«01_k».proof.Proof.RefTake

@[expose] public section

set_option maxRecDepth 16384

noncomputable section

namespace Cert.Match

open Idealize.ShloMosaic Idealize.ShloMosaic.TcCoe Idealize.SL.Sem Cert.Rows

/-- Two rank-3 arrays that agree at every triple of coordinates are equal. -/
theorem ext3 {α : Type} {n0 n1 n2 : ℕ} {f g : (⟨3, ![n0, n1, n2]⟩ : Shape).Idx → α}
    (h : ∀ a b c, f (ix3 a b c) = g (ix3 a b c)) : f = g := by
  funext i
  have e : i = ix3 (i 0) (i 1) (i 2) := by
    funext d
    match d with
    | ⟨0, _⟩ => rfl
    | ⟨1, _⟩ => rfl
    | ⟨2, _⟩ => rfl
  rw [e]
  exact h _ _ _

/-- Two rank-4 arrays that agree at every four coordinates are equal. -/
theorem ext4 {α : Type} {n0 n1 n2 n3 : ℕ} {f g : (⟨4, ![n0, n1, n2, n3]⟩ : Shape).Idx → α}
    (h : ∀ a b c d, f (ix4 a b c d) = g (ix4 a b c d)) : f = g := by
  funext i
  have e : i = ix4 (i 0) (i 1) (i 2) (i 3) := by
    funext d
    match d with
    | ⟨0, _⟩ => rfl
    | ⟨1, _⟩ => rfl
    | ⟨2, _⟩ => rfl
    | ⟨3, _⟩ => rfl
  rw [e]
  exact h _ _ _ _

/-- Every one of the 424 rows has a number: its own below 64, then what `i` and `k` name. -/
theorem number (i k : Fin 180 → ℕ) (hi : ∀ q, i q < 256) (hk : ∀ q, k q < 256) (r : Fin 424) :
    ∃ n : Fin 576, (r.val < 64 → n.val = r.val) ∧ (∀ q : Fin 180, r.val = 64 + q.val → n.val = 64 + i q)
      ∧ (∀ q : Fin 180, r.val = 244 + q.val → n.val = 320 + k q) := by
  by_cases c0 : r.val < 64
  · exact ⟨⟨r.val, by omega⟩, fun _ => rfl, fun q h => by omega, fun q h => by omega⟩
  by_cases c1 : r.val < 244
  · have := hi ⟨r.val - 64, by omega⟩
    refine ⟨⟨64 + i ⟨r.val - 64, by omega⟩, by omega⟩, fun h => absurd h c0, fun q h => ?_, fun q h => by omega⟩
    exact congrArg (fun q => 64 + i q) (Fin.ext (by show r.val - 64 = q.val; omega))
  · have hr := r.isLt
    have := hk ⟨r.val - 244, by omega⟩
    refine ⟨⟨320 + k ⟨r.val - 244, by omega⟩, by omega⟩, fun h => absurd h c0, fun q h => ?_, fun q h => ?_⟩
    · have := q.isLt; omega
    · exact congrArg (fun q => 320 + k q) (Fin.ext (by show r.val - 244 = q.val; omega))

/-- The reference's rows with their MLP added are the kernel's, for any numbers below 256. -/
theorem out_eq (X : FVec Ideal KernelIdeal.S32x576x768 .f32) (i k : IVec KernelIdeal.S32x180 32)
    (g b d : FVec Ideal KernelIdeal.S768 .f32) (w : FVec Ideal KernelIdeal.S3072x768 .f32) (c : FVec Ideal KernelIdeal.S3072 .f32)
    (u : FVec Ideal KernelIdeal.S768x3072 .f32) (hi : ∀ j, (i j).toNat < 256) (hk : ∀ j, (k j).toNat < 256) :
    ReferenceIdeal.Mlp.result (ReferenceIdeal.Take.kept X i k)
        (ReferenceIdeal.Mlp.hidden (ReferenceIdeal.Take.kept X i k) g b w c) u d
      = KernelIdeal.Region1.arrM X
          (shapeCast KernelIdeal.S32x1x512 (KernelIdeal.Host.padded (KernelIdeal.Host.rowNums i k)) KernelIdeal.Gen.shapeCasts_S32x512_S32x1x512)
          (shapeCast KernelIdeal.S1x768 g KernelIdeal.Gen.shapeCasts_S768_S1x768)
          (shapeCast KernelIdeal.S1x768 b KernelIdeal.Gen.shapeCasts_S768_S1x768)
          (transpose KernelIdeal.S768x3072 [1, 0] w KernelIdeal.Gen.transposes_S3072x768_S768x3072_1_0)
          (shapeCast KernelIdeal.S1x3072 c KernelIdeal.Gen.shapeCasts_S3072_S1x3072)
          (transpose KernelIdeal.S3072x768 [1, 0] u KernelIdeal.Gen.transposes_S768x3072_S3072x768_1_0)
          (shapeCast KernelIdeal.S1x768 d KernelIdeal.Gen.shapeCasts_S768_S1x768) := by
  refine ext3 fun p r l => ?_
  obtain ⟨n, h0, h1, h2⟩ := number (fun q => (i (ix2 p q)).toNat) (fun q => (k (ix2 p q)).toNat) (fun q => hi _) (fun q => hk _) r
  have hx : ∀ l, ReferenceIdeal.Take.kept X i k (ix3 p r l) = X (ix3 p n l) := fun l =>
    ReferenceIdeal.Take.kept_at X i k p r l n (fun _ => hi _) (fun _ => hk _) h0 h1 h2
  have hn := KernelIdeal.Host.padded_at i k p r n.val (fun _ => hi _) (fun _ => hk _) h0 h1 h2
  have hp := pick_eq _ (fun k l => X (ix3 p k l)) n hn
  rw [ReferenceIdeal.Mlp.result_at]
  simp only [ReferenceIdeal.Mlp.hidden_at, hx]
  unfold KernelIdeal.Region1.arrM
  refine Eq.trans ?_ (congrArg (fun x => mlp x _ _ _ _ _ _ l) hp).symm
  pointwise
  rfl

end Cert.Match
-- ==== Proof.RefSoft.lean ====
module

public import proofs.«01_k».proof.Proof.Gen.ReferenceIdeal.Run
public import Idealize.ShloMosaic.Lib.Pipeline.ValueKit

@[expose] public section

set_option maxRecDepth 16384

noncomputable section

namespace Cert.ReferenceIdeal.Attn

open Idealize.ShloMosaic Idealize.ShloMosaic.TcCoe Idealize.SL.Sem Cert.ReferenceIdeal Cert.ReferenceIdeal.Gen

/-- A row maximum from a scalar start, over any sizes. -/
theorem rowMax {n0 n1 n2 n3 : ℕ} {u : Shape} (hr : (⟨4, ![n0, n1, n2, n3]⟩ : Shape).ReducesTo [3] ⟨3, ![n0, n1, n2]⟩)
    (hu : 0 < u.numel) (s : (⟨4, ![n0, n1, n2, n3]⟩ : Shape).Idx → EReal) (c : u.Idx → EReal) (a : EReal) (ha : c (Shape.Idx.first hu) = a)
    (b : Fin n0) (h : Fin n1) (i : Fin n2) :
    Host.reduce (FloatOps.maximumf : Ideal .f32 → Ideal .f32 → Ideal .f32) s c hr hu (ix3 b h i) = Finset.univ.fold max a fun l : Fin n3 => s (ix4 b h i l) := by
  rw [Ideal.maximumf_eq_max, Host.reduce_eq_fold, ha, Shape.ReducesTo.fold_fiber_r4_a3]
  rfl

/-- The row maxima of an array of scores. -/
def tops (s : FVec Ideal S32x12x576x576 .f32) : FVec Ideal S32x12x576 .f32 :=
  maximumf (broadcastInDim S32x12x576 ![] bcast_S_S32x12x576 (constant S_ .f32 0xFF800000#32))
    (Host.reduce FloatOps.maximumf s (constant S_ .f32 0xFF800000#32) reducesTo_S32x12x576x576_S32x12x576_d3 h_S_)

/-- The exponentials of an array of scores, each less its row's entry of `m`. -/
def numer (s : FVec Ideal S32x12x576x576 .f32) (m : FVec Ideal S32x12x576 .f32) : FVec Ideal S32x12x576x576 .f32 :=
  Host.exp (subf s (broadcastInDim S32x12x576x576 ![0, 1, 2, 3] bcast_S32x12x576x1_S32x12x576x576_0_1_2_3
    (broadcastInDim S32x12x576x1 ![0, 1, 2] bcast_S32x12x576_S32x12x576x1_0_1_2 m)))

/-- The greatest of the start and a fold of `max` from it is the fold. -/
theorem max_fold (a : EReal) (f : Fin 576 → EReal) : max a (Finset.univ.fold max a f) = Finset.univ.fold max a f :=
  max_eq_right ((Finset.le_fold_max a).2 (Or.inl le_rfl))

/-- The greatest of a constant and an array, at an index. -/
theorem tops_red (R : FVec Ideal S32x12x576 .f32) (b : Fin 32) (h : Fin 12) (i : Fin 576) :
    (maximumf (broadcastInDim S32x12x576 ![] bcast_S_S32x12x576 (constant S_ .f32 0xFF800000#32)) R) (ix3 b h i)
      = max (Ideal.ofBits .f32 0xFF800000#32) (R (ix3 b h i)) := by
  pointwise

/-- An entry of the row maxima is the fold of `max` over the row. -/
theorem tops_at (s : FVec Ideal S32x12x576x576 .f32) (b : Fin 32) (h : Fin 12) (i : Fin 576) :
    tops s (ix3 b h i) = Finset.univ.fold max (Ideal.ofBits .f32 0xFF800000#32) fun l : Fin 576 => s (ix4 b h i l) := by
  unfold tops
  rw [tops_red, rowMax _ _ s _ (Ideal.ofBits .f32 0xFF800000#32) rfl, max_fold]

/-- An entry of the exponentials. -/
theorem numer_at (s : FVec Ideal S32x12x576x576 .f32) (m : FVec Ideal S32x12x576 .f32) (b : Fin 32) (h : Fin 12) (i k : Fin 576) :
    numer s m (ix4 b h i k) = Ideal.exp (s (ix4 b h i k) - m (ix3 b h i)) := by
  pointwise [numer]

end Cert.ReferenceIdeal.Attn
-- ==== Proof.RefAttn.lean ====
module

public import proofs.«01_k».proof.Proof.Rows
public import proofs.«01_k».proof.Proof.RefSoft
public import proofs.«01_k».proof.Proof.Gen.ReferenceIdeal.Run
public import Idealize.ShloMosaic.Lib.Pipeline.ValueKit

@[expose] public section

set_option maxRecDepth 16384

noncomputable section

namespace Cert.ReferenceIdeal.Attn

open Idealize.ShloMosaic Idealize.ShloMosaic.TcCoe Idealize.SL.Sem Cert.ReferenceIdeal Cert.ReferenceIdeal.Gen
open Cert.ReferenceIdeal.Value Cert.Rows

/-- The split of queries, keys and values into heads. -/
def split (Q : FVec Ideal S32x576x2304 .f32) : FVec Ideal S3x32x12x576x64 .f32 :=
  transpose S3x32x12x576x64 [2, 0, 3, 1, 4] (shapeCast S32x576x3x12x64 Q shapeCasts_S32x576x2304_S32x576x3x12x64)
    transposes_S32x576x3x12x64_S3x32x12x576x64_2_0_3_1_4

/-- Part `p` of the split, head `h`, entry `d` is column `768 p + 64 h + d`. -/
theorem split_at (Q : FVec Ideal S32x576x2304 .f32) (p : Fin 3) (b : Fin 32) (h : Fin 12) (i : Fin 576) (d : Fin 64)
    (l : Fin 2304) (hl : l.val = 768 * p.val + 64 * h.val + d.val) : split Q (ix5 p b h i d) = Q (ix3 b i l) := by
  pointwise [split]
  exact congrArg (fun l => Q (ix3 b i l)) (Fin.ext (by show p.val * 768 + h.val * 64 + d.val = l.val; omega))

/-- Part 0 is the queries. -/
theorem split_q (Q : FVec Ideal S32x576x2304 .f32) (b : Fin 32) (h : Fin 12) (i : Fin 576) (d : Fin 64) :
    split Q (ix5 0 b h i d) = Q (ix3 b i (qcol h d)) :=
  split_at Q 0 b h i d _ (by show 64 * h.val + d.val = 768 * 0 + 64 * h.val + d.val; omega)
/-- Part 1 is the keys. -/
theorem split_k (Q : FVec Ideal S32x576x2304 .f32) (b : Fin 32) (h : Fin 12) (i : Fin 576) (d : Fin 64) :
    split Q (ix5 1 b h i d) = Q (ix3 b i (kcol h d)) :=
  split_at Q 1 b h i d _ (by show 768 + 64 * h.val + d.val = 768 * 1 + 64 * h.val + d.val; omega)
/-- Part 2 is the values. -/
theorem split_v (Q : FVec Ideal S32x576x2304 .f32) (b : Fin 32) (h : Fin 12) (i : Fin 576) (d : Fin 64) :
    split Q (ix5 2 b h i d) = Q (ix3 b i (vcol h d)) :=
  split_at Q 2 b h i d _ (by show 1536 + 64 * h.val + d.val = 768 * 2 + 64 * h.val + d.val; omega)

/-- The query row of batch entry `b` at row `i`, and its key and value rows. -/
abbrev Qrow (Q : FVec Ideal S32x576x2304 .f32) (b : Fin 32) (q : Fin 576) : Fin 2304 → EReal := fun l => Q (ix3 b q l)
/-- The key and value rows of batch entry `b`. -/
abbrev Krow (Q : FVec Ideal S32x576x2304 .f32) (b : Fin 32) : Fin 576 → Fin 2304 → EReal := fun k l => Q (ix3 b k l)

/-- A bias added last is a bias added first. -/
theorem swap (a s c : EReal) : a + (s + c) = a + c + s := by rw [add_comm s c, add_assoc]

variable (V0 : Valuation τ sig (Elt Ideal)) {Q : FVec Ideal S32x576x2304 .f32} (hQ : res_main_v30 V0 = split Q)

include hQ in
/-- The scores. -/
theorem v39_at (b : Fin 32) (h : Fin 12) (i k : Fin 576) :
    res_main_v39 V0 (ix4 b h i k) = sc (Qrow Q b i) (Krow Q b) h k := by
  pointwise [res_main_v39]
  simp only [hQ, split_q, split_k]
  rfl

/-- The reference's exponentials are those of its scores less their row maxima. -/
theorem v46_numer : res_main_v46 V0 = numer (res_main_v39 V0) (tops (res_main_v39 V0)) := rfl

include hQ in
/-- The exponentials. -/
theorem v46_at (b : Fin 32) (h : Fin 12) (i k : Fin 576) :
    res_main_v46 V0 (ix4 b h i k) = ex (Qrow Q b i) (Krow Q b) h k := by
  rw [v46_numer, numer_at, tops_at]
  simp only [v39_at V0 hQ]
  rfl

include hQ in
/-- The weights. -/
theorem v50_at (b : Fin 32) (h : Fin 12) (i k : Fin 576) :
    res_main_v50 V0 (ix4 b h i k) = pr (Qrow Q b i) (Krow Q b) h k := by
  pointwise [res_main_v50]
  simp only [v46_at V0 hQ]
  rfl

include hQ in
/-- The residual rows. -/
theorem v59_at (b : Fin 32) (i : Fin 576) (j : Fin 768) :
    res_main_v59 V0 (ix3 b i j) = xo (fun l => V0 (Proc.devRef .tc main_arg0) (ix3 b i l)) (fun l => V0 (Proc.devRef .tc main_arg9) (ix1 l))
      (fun r l => V0 (Proc.devRef .tc main_arg8) (ix2 l r)) (Qrow Q b i) (Krow Q b) j := by
  pointwise [res_main_v59]
  simp only [v50_at V0 hQ, hQ, split_v]
  unfold xo
  exact swap _ _ _

end Cert.ReferenceIdeal.Attn
-- ==== Proof.Match.lean ====
module

public import proofs.«01_k».proof.Proof.Values
public import proofs.«01_k».proof.Proof.MatchOut
public import proofs.«01_k».proof.Proof.RefAttn

@[expose] public section

set_option maxRecDepth 16384

noncomputable section

namespace Cert.Match

open Idealize.ShloMosaic Idealize.ShloMosaic.TcCoe Idealize.ShloMosaic.StableHlo Idealize.SL.Sem Cert.Rows

/-- The weights the reference averages are the kernel's quotients of its exponentials. -/
theorem tmpl_eq (Q : FVec Ideal KernelIdeal.S32x576x2304 .f32) :
    extractStridedSlice KernelIdeal.S32x12x64x512 ![0, 0, 0, 64] (KernelIdeal.Region0.arrP Q)
        ReferenceIdeal.Gen.slices_S32x12x576x576_S32x12x64x512_0_0_0_64
      = KernelIdeal.Host.tmpl (KernelIdeal.Region0.arrE Q) := by
  refine ext4 fun b h i k => ?_
  pointwise [KernelIdeal.Host.tmpl]
  rfl

/-- So are their means. -/
theorem means_eq (P : FVec Ideal KernelIdeal.S32x12x576x576 .f32) (Q : FVec Ideal KernelIdeal.S32x576x2304 .f32)
    (h : P = KernelIdeal.Region0.arrP Q) :
    KernelIdeal.Host.means (extractStridedSlice KernelIdeal.S32x12x64x512 ![0, 0, 0, 64] P
        ReferenceIdeal.Gen.slices_S32x12x576x576_S32x12x64x512_0_0_0_64)
      = KernelIdeal.Host.means (KernelIdeal.Host.tmpl (KernelIdeal.Region0.arrE Q)) := by
  subst h
  exact congrArg KernelIdeal.Host.means (tmpl_eq Q)

section Ref

open Cert.ReferenceIdeal Cert.ReferenceIdeal.Gen Cert.ReferenceIdeal.Value

variable (V0 : Valuation τ sig (Elt Ideal))

/-- The reference's queries, keys and values before the split into heads. -/
def rQ : FVec Ideal S32x576x2304 .f32 :=
  KernelIdeal.Host.qkv (V0 (Proc.devRef .tc main_arg0)) (V0 (Proc.devRef .tc main_arg4)) (V0 (Proc.devRef .tc main_arg5))
    (V0 (Proc.devRef .tc main_arg6)) (V0 (Proc.devRef .tc main_arg7))

/-- The reference splits these into heads. -/
theorem v30 : res_main_v30 V0 = Attn.split (rQ V0) := rfl

/-- The reference's residual rows. -/
def rX : FVec Ideal S32x576x768 .f32 :=
  KernelIdeal.Region0.arrX (V0 (Proc.devRef .tc main_arg0)) (rQ V0)
    (transpose KernelIdeal.S768x768 [1, 0] (V0 (Proc.devRef .tc main_arg8)) KernelIdeal.Gen.transposes_S768x768_S768x768_1_0)
    (shapeCast KernelIdeal.S1x768 (V0 (Proc.devRef .tc main_arg9)) KernelIdeal.Gen.shapeCasts_S768_S1x768)

/-- An entry of the kernel's residual rows. -/
theorem arrX_at (X : FVec Ideal KernelIdeal.S32x576x768 .f32) (Q : FVec Ideal KernelIdeal.S32x576x2304 .f32)
    (W : FVec Ideal KernelIdeal.S768x768 .f32) (B : FVec Ideal KernelIdeal.S768 .f32) (b : Fin 32) (i : Fin 576) (j : Fin 768) :
    KernelIdeal.Region0.arrX X Q (transpose KernelIdeal.S768x768 [1, 0] W KernelIdeal.Gen.transposes_S768x768_S768x768_1_0)
        (shapeCast KernelIdeal.S1x768 B KernelIdeal.Gen.shapeCasts_S768_S1x768) (ix3 b i j)
      = xo (fun l => X (ix3 b i l)) (fun l => B (ix1 l)) (fun r l => W (ix2 l r)) (fun l => Q (ix3 b i l)) (fun k l => Q (ix3 b k l)) j := by
  unfold KernelIdeal.Region0.arrX
  pointwise

/-- The reference's residual rows are the kernel's. -/
theorem v59 : res_main_v59 V0 = rX V0 :=
  ext3 fun b i j => (Attn.v59_at V0 (v30 V0) b i j).trans (arrX_at _ _ _ _ b i j).symm

/-- The reference's weights are the kernel's. -/
theorem v50 : res_main_v50 V0 = KernelIdeal.Region0.arrP (rQ V0) :=
  ext4 fun b h i k => Attn.v50_at V0 (v30 V0) b h i k

/-- The reference's mean weights. -/
def rM : FVec Ideal S32x512 .f32 := KernelIdeal.Host.means (KernelIdeal.Host.tmpl (KernelIdeal.Region0.arrE (rQ V0)))

/-- The reference's mean weights are the means of a block of its weights. -/
theorem v69' : res_main_v69 V0 = KernelIdeal.Host.means
    (extractStridedSlice S32x12x64x512 ![0, 0, 0, 64] (res_main_v50 V0) slices_S32x12x576x576_S32x12x64x512_0_0_0_64) := rfl

/-- They are the kernel's mean weights. -/
theorem v69 : res_main_v69 V0 = rM V0 := by
  rw [v69', means_eq _ _ (v50 V0)]
  rfl

/-- The order of 256 of the mean weights, from position `o` on. -/
abbrev order0 (M : FVec Ideal S32x512 .f32) : IVec S32x256 32 :=
  KernelIdeal.Host.rank (Host.negf (F := Ideal) (φ := .f32)
    (extractStridedSlice KernelIdeal.S32x256 ![0, 0] M KernelIdeal.Gen.slices_S32x512_S32x256_0_0))
/-- The order of the last 256 of the mean weights. -/
abbrev order256 (M : FVec Ideal S32x512 .f32) : IVec S32x256 32 :=
  KernelIdeal.Host.rank (Host.negf (F := Ideal) (φ := .f32)
    (extractStridedSlice KernelIdeal.S32x256 ![0, 256] M KernelIdeal.Gen.slices_S32x512_S32x256_0_256))

/-- The reference's first sort is the order of the first 256. -/
theorem v73' : res_main_v73 V0 = order0 (res_main_v69 V0) := rfl
/-- Its second sort is the order of the last 256. -/
theorem v81' : res_main_v81 V0 = order256 (res_main_v69 V0) := rfl
/-- The first order, by the kernel's mean weights. -/
theorem v73 : res_main_v73 V0 = order0 (rM V0) := (v73' V0).trans (congrArg order0 (v69 V0))
/-- The second order, by the kernel's mean weights. -/
theorem v81 : res_main_v81 V0 = order256 (rM V0) := (v81' V0).trans (congrArg order256 (v69 V0))

/-- The first 180 numbers of the first order. -/
theorem v74 : res_main_v74 V0 = KernelIdeal.Host.keep (order0 (rM V0)) :=
  (show res_main_v74 V0 = KernelIdeal.Host.keep (res_main_v73 V0) from rfl).trans (congrArg KernelIdeal.Host.keep (v73 V0))
/-- The first 180 numbers of the second order. -/
theorem v82 : res_main_v82 V0 = KernelIdeal.Host.keep (order256 (rM V0)) :=
  (show res_main_v82 V0 = KernelIdeal.Host.keep (res_main_v81 V0) from rfl).trans (congrArg KernelIdeal.Host.keep (v81 V0))
/-- The last 76 numbers of the first order. -/
theorem v75 : res_main_v75 V0 = KernelIdeal.Host.drop (order0 (rM V0)) :=
  (show res_main_v75 V0 = KernelIdeal.Host.drop (res_main_v73 V0) from rfl).trans (congrArg KernelIdeal.Host.drop (v73 V0))
/-- The last 76 numbers of the second order. -/
theorem v83 : res_main_v83 V0 = KernelIdeal.Host.drop (order256 (rM V0)) :=
  (show res_main_v83 V0 = KernelIdeal.Host.drop (res_main_v81 V0) from rfl).trans (congrArg KernelIdeal.Host.drop (v81 V0))

/-- The reference's 424 rows are those its numbers keep. -/
theorem v88' : res_main_v88 V0 = Take.kept (res_main_v59 V0) (res_main_v74 V0) (res_main_v82 V0) := rfl
/-- They are those that the kernel's numbers keep of its rows. -/
theorem v88 : res_main_v88 V0 = Take.kept (rX V0) (KernelIdeal.Host.keep (order0 (rM V0))) (KernelIdeal.Host.keep (order256 (rM V0))) := by
  rw [v88', v59, v74, v82]

/-- The reference's hidden layer. -/
theorem v117 : res_main_v117 V0 = Mlp.hidden (res_main_v88 V0) (V0 (Proc.devRef .tc main_arg10)) (V0 (Proc.devRef .tc main_arg11))
    (V0 (Proc.devRef .tc main_arg12)) (V0 (Proc.devRef .tc main_arg13)) := rfl

/-- The reference's first result. -/
def rO : FVec Ideal S32x424x768 .f32 :=
  KernelIdeal.Region1.arrM (rX V0)
    (shapeCast KernelIdeal.S32x1x512 (KernelIdeal.Host.padded (KernelIdeal.Host.rowNums
      (KernelIdeal.Host.keep (order0 (rM V0))) (KernelIdeal.Host.keep (order256 (rM V0))))) KernelIdeal.Gen.shapeCasts_S32x512_S32x1x512)
    (shapeCast KernelIdeal.S1x768 (V0 (Proc.devRef .tc main_arg10)) KernelIdeal.Gen.shapeCasts_S768_S1x768)
    (shapeCast KernelIdeal.S1x768 (V0 (Proc.devRef .tc main_arg11)) KernelIdeal.Gen.shapeCasts_S768_S1x768)
    (transpose KernelIdeal.S768x3072 [1, 0] (V0 (Proc.devRef .tc main_arg12)) KernelIdeal.Gen.transposes_S3072x768_S768x3072_1_0)
    (shapeCast KernelIdeal.S1x3072 (V0 (Proc.devRef .tc main_arg13)) KernelIdeal.Gen.shapeCasts_S3072_S1x3072)
    (transpose KernelIdeal.S3072x768 [1, 0] (V0 (Proc.devRef .tc main_arg14)) KernelIdeal.Gen.transposes_S768x3072_S3072x768_1_0)
    (shapeCast KernelIdeal.S1x768 (V0 (Proc.devRef .tc main_arg15)) KernelIdeal.Gen.shapeCasts_S768_S1x768)

/-- The first 180 numbers of an order are below 256. -/
theorem keep_lt (v : FVec Ideal KernelIdeal.S32x256 .f32) (j : KernelIdeal.S32x180.Idx) :
    (KernelIdeal.Host.keep (KernelIdeal.Host.rank v) j).toNat < 256 :=
  KernelIdeal.Host.rank_lt v _

/-- The reference's first result is what the kernel computes. -/
theorem v130 : Mlp.result (res_main_v88 V0) (res_main_v117 V0) (V0 (Proc.devRef .tc main_arg14)) (V0 (Proc.devRef .tc main_arg15)) = rO V0 := by
  rw [v117, v88]
  exact out_eq (rX V0) _ _ _ _ _ _ _ _ (keep_lt _) (keep_lt _)

/-- The kept entries of the first index array. -/
theorem v76 : KernelIdeal.Host.take180 (V0 (Proc.devRef .tc main_arg2)) (res_main_v74 V0)
    = KernelIdeal.Host.take180 (V0 (Proc.devRef .tc main_arg2)) (KernelIdeal.Host.keep (order0 (rM V0))) :=
  congrArg (KernelIdeal.Host.take180 (V0 (Proc.devRef .tc main_arg2))) (v74 V0)
/-- The kept entries of the second index array. -/
theorem v84 : KernelIdeal.Host.take180 (V0 (Proc.devRef .tc main_arg3)) (res_main_v82 V0)
    = KernelIdeal.Host.take180 (V0 (Proc.devRef .tc main_arg3)) (KernelIdeal.Host.keep (order256 (rM V0))) :=
  congrArg (KernelIdeal.Host.take180 (V0 (Proc.devRef .tc main_arg3))) (v82 V0)
/-- The removed entries of the first index array. -/
theorem v77 : KernelIdeal.Host.take76 (V0 (Proc.devRef .tc main_arg2)) (res_main_v75 V0)
    = KernelIdeal.Host.take76 (V0 (Proc.devRef .tc main_arg2)) (KernelIdeal.Host.drop (order0 (rM V0))) :=
  congrArg (KernelIdeal.Host.take76 (V0 (Proc.devRef .tc main_arg2))) (v75 V0)
/-- The removed entries of the second index array. -/
theorem v85 : KernelIdeal.Host.take76 (V0 (Proc.devRef .tc main_arg3)) (res_main_v83 V0)
    = KernelIdeal.Host.take76 (V0 (Proc.devRef .tc main_arg3)) (KernelIdeal.Host.drop (order256 (rM V0))) :=
  congrArg (KernelIdeal.Host.take76 (V0 (Proc.devRef .tc main_arg3))) (v83 V0)

/-- Every run of the reference ends with its results at these values and its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v130) = rO (launchContents m c)
      ∧ r.2.mem ((c.tc : Thread nD τ).loc main_arg1) = m ((c.tc : Thread nD τ).loc main_arg1)
      ∧ r.2.mem ((c.tc : Thread nD τ).loc main_v76) = KernelIdeal.Host.take180 (m ((c.tc : Thread nD τ).loc main_arg2)) (KernelIdeal.Host.keep (order0 (rM (launchContents m c))))
      ∧ r.2.mem ((c.tc : Thread nD τ).loc main_v84) = KernelIdeal.Host.take180 (m ((c.tc : Thread nD τ).loc main_arg3)) (KernelIdeal.Host.keep (order256 (rM (launchContents m c))))
      ∧ r.2.mem ((c.tc : Thread nD τ).loc main_v77) = KernelIdeal.Host.take76 (m ((c.tc : Thread nD τ).loc main_arg2)) (KernelIdeal.Host.drop (order0 (rM (launchContents m c))))
      ∧ r.2.mem ((c.tc : Thread nD τ).loc main_v85) = KernelIdeal.Host.take76 (m ((c.tc : Thread nD τ).loc main_arg3)) (KernelIdeal.Host.drop (order256 (rM (launchContents m c))))
      ∧ r.2.mem ((c.tc : Thread nD τ).loc main_v50) = KernelIdeal.Region0.arrP (rQ (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    have ⟨h0, h1, h2, h3, h4, h5, h6, hs⟩ := h c
    ⟨h0.trans (v130 _), h1, h2.trans (v76 _), h3.trans (v84 _), h4.trans (v77 _), h5.trans (v85 _), h6.trans (v50 _), hs⟩)
    (Value.run (F := Ideal) m ρ)

end Ref

/-! From memories that agree on the arguments the two programs' values are the same. -/

section Same

variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ} {c : Dev KernelIdeal.nD}

/-- Equal arguments give equal queries, keys and values. -/
theorem qkv_congr {x x' : FVec Ideal KernelIdeal.S32x576x768 .f32} {g g' b b' : FVec Ideal KernelIdeal.S768 .f32}
    {w w' : FVec Ideal KernelIdeal.S2304x768 .f32} {d d' : FVec Ideal KernelIdeal.S2304 .f32}
    (h0 : x = x') (h1 : g = g') (h2 : b = b') (h3 : w = w') (h4 : d = d') :
    KernelIdeal.Host.qkv x g b w d = KernelIdeal.Host.qkv x' g' b' w' d' := by
  rw [h0, h1, h2, h3, h4]

/-- Equal operands give equal residual rows. -/
theorem arrX_congr {X X' : FVec Ideal KernelIdeal.S32x576x768 .f32} {Q Q' : FVec Ideal KernelIdeal.S32x576x2304 .f32}
    {W W' : FVec Ideal KernelIdeal.S768x768 .f32} {B B' : FVec Ideal KernelIdeal.S1x768 .f32}
    (h0 : X = X') (h1 : Q = Q') (h2 : W = W') (h3 : B = B') :
    KernelIdeal.Region0.arrX X Q W B = KernelIdeal.Region0.arrX X' Q' W' B' := by
  rw [h0, h1, h2, h3]

/-- The queries, keys and values agree. -/
theorem sameQ (e0 : m' ((c.tc : Thread ReferenceIdeal.nD ReferenceIdeal.τ).loc ReferenceIdeal.main_arg0) = m ((c.tc : Thread KernelIdeal.nD KernelIdeal.τ).loc KernelIdeal.main_arg0))
    (e4 : m' ((c.tc : Thread ReferenceIdeal.nD ReferenceIdeal.τ).loc ReferenceIdeal.main_arg4) = m ((c.tc : Thread KernelIdeal.nD KernelIdeal.τ).loc KernelIdeal.main_arg4))
    (e5 : m' ((c.tc : Thread ReferenceIdeal.nD ReferenceIdeal.τ).loc ReferenceIdeal.main_arg5) = m ((c.tc : Thread KernelIdeal.nD KernelIdeal.τ).loc KernelIdeal.main_arg5))
    (e6 : m' ((c.tc : Thread ReferenceIdeal.nD ReferenceIdeal.τ).loc ReferenceIdeal.main_arg6) = m ((c.tc : Thread KernelIdeal.nD KernelIdeal.τ).loc KernelIdeal.main_arg6))
    (e7 : m' ((c.tc : Thread ReferenceIdeal.nD ReferenceIdeal.τ).loc ReferenceIdeal.main_arg7) = m ((c.tc : Thread KernelIdeal.nD KernelIdeal.τ).loc KernelIdeal.main_arg7)) :
    rQ (launchContents m' c) = KernelIdeal.Values.vQ m c :=
  qkv_congr e0 e4 e5 e6 e7

/-- The residual rows agree. -/
theorem sameX (e0 : m' ((c.tc : Thread ReferenceIdeal.nD ReferenceIdeal.τ).loc ReferenceIdeal.main_arg0) = m ((c.tc : Thread KernelIdeal.nD KernelIdeal.τ).loc KernelIdeal.main_arg0))
    (e8 : m' ((c.tc : Thread ReferenceIdeal.nD ReferenceIdeal.τ).loc ReferenceIdeal.main_arg8) = m ((c.tc : Thread KernelIdeal.nD KernelIdeal.τ).loc KernelIdeal.main_arg8))
    (e9 : m' ((c.tc : Thread ReferenceIdeal.nD ReferenceIdeal.τ).loc ReferenceIdeal.main_arg9) = m ((c.tc : Thread KernelIdeal.nD KernelIdeal.τ).loc KernelIdeal.main_arg9))
    (hQ : rQ (launchContents m' c) = KernelIdeal.Values.vQ m c) :
    rX (launchContents m' c) = KernelIdeal.Values.vX m c :=
  arrX_congr e0 hQ
    (congrArg (fun w : FVec Ideal KernelIdeal.S768x768 .f32 =>
      transpose KernelIdeal.S768x768 [1, 0] w KernelIdeal.Gen.transposes_S768x768_S768x768_1_0) e8)
    (congrArg (fun b : FVec Ideal KernelIdeal.S768 .f32 => shapeCast KernelIdeal.S1x768 b KernelIdeal.Gen.shapeCasts_S768_S1x768) e9)

/-- The mean weights agree. -/
theorem sameM (hQ : rQ (launchContents m' c) = KernelIdeal.Values.vQ m c) :
    rM (launchContents m' c) = KernelIdeal.Values.vM m c :=
  congrArg (fun Q => KernelIdeal.Host.means (KernelIdeal.Host.tmpl (KernelIdeal.Region0.arrE Q))) hQ

/-- The first orders agree. -/
theorem sameT (hM : rM (launchContents m' c) = KernelIdeal.Values.vM m c) :
    order0 (rM (launchContents m' c)) = KernelIdeal.Values.vT m c := congrArg order0 hM
/-- The second orders agree. -/
theorem sameS (hM : rM (launchContents m' c) = KernelIdeal.Values.vM m c) :
    order256 (rM (launchContents m' c)) = KernelIdeal.Values.vS m c := congrArg order256 hM

/-- Equal orders give equal padded row numbers. -/
theorem nums_congr {i i' k k' : IVec KernelIdeal.S32x256 32} (hi : i = i') (hk : k = k') :
    shapeCast KernelIdeal.S32x1x512 (KernelIdeal.Host.padded (KernelIdeal.Host.rowNums (KernelIdeal.Host.keep i) (KernelIdeal.Host.keep k)))
        KernelIdeal.Gen.shapeCasts_S32x512_S32x1x512
      = shapeCast KernelIdeal.S32x1x512 (KernelIdeal.Host.padded (KernelIdeal.Host.rowNums (KernelIdeal.Host.keep i') (KernelIdeal.Host.keep k')))
        KernelIdeal.Gen.shapeCasts_S32x512_S32x1x512 := by
  rw [hi, hk]

/-- The first results agree. -/
theorem sameO (e10 : m' ((c.tc : Thread ReferenceIdeal.nD ReferenceIdeal.τ).loc ReferenceIdeal.main_arg10) = m ((c.tc : Thread KernelIdeal.nD KernelIdeal.τ).loc KernelIdeal.main_arg10))
    (e11 : m' ((c.tc : Thread ReferenceIdeal.nD ReferenceIdeal.τ).loc ReferenceIdeal.main_arg11) = m ((c.tc : Thread KernelIdeal.nD KernelIdeal.τ).loc KernelIdeal.main_arg11))
    (e12 : m' ((c.tc : Thread ReferenceIdeal.nD ReferenceIdeal.τ).loc ReferenceIdeal.main_arg12) = m ((c.tc : Thread KernelIdeal.nD KernelIdeal.τ).loc KernelIdeal.main_arg12))
    (e13 : m' ((c.tc : Thread ReferenceIdeal.nD ReferenceIdeal.τ).loc ReferenceIdeal.main_arg13) = m ((c.tc : Thread KernelIdeal.nD KernelIdeal.τ).loc KernelIdeal.main_arg13))
    (e14 : m' ((c.tc : Thread ReferenceIdeal.nD ReferenceIdeal.τ).loc ReferenceIdeal.main_arg14) = m ((c.tc : Thread KernelIdeal.nD KernelIdeal.τ).loc KernelIdeal.main_arg14))
    (e15 : m' ((c.tc : Thread ReferenceIdeal.nD ReferenceIdeal.τ).loc ReferenceIdeal.main_arg15) = m ((c.tc : Thread KernelIdeal.nD KernelIdeal.τ).loc KernelIdeal.main_arg15))
    (hX : rX (launchContents m' c) = KernelIdeal.Values.vX m c) (hM : rM (launchContents m' c) = KernelIdeal.Values.vM m c) :
    rO (launchContents m' c) = KernelIdeal.Values.vO m c :=
  KernelIdeal.Values.arrM_congr hX (nums_congr (sameT hM) (sameS hM))
    (congrArg (fun b : FVec Ideal KernelIdeal.S768 .f32 => shapeCast KernelIdeal.S1x768 b KernelIdeal.Gen.shapeCasts_S768_S1x768) e10)
    (congrArg (fun b : FVec Ideal KernelIdeal.S768 .f32 => shapeCast KernelIdeal.S1x768 b KernelIdeal.Gen.shapeCasts_S768_S1x768) e11)
    (congrArg (fun w : FVec Ideal KernelIdeal.S3072x768 .f32 =>
      transpose KernelIdeal.S768x3072 [1, 0] w KernelIdeal.Gen.transposes_S3072x768_S768x3072_1_0) e12)
    (congrArg (fun b : FVec Ideal KernelIdeal.S3072 .f32 => shapeCast KernelIdeal.S1x3072 b KernelIdeal.Gen.shapeCasts_S3072_S1x3072) e13)
    (congrArg (fun w : FVec Ideal KernelIdeal.S768x3072 .f32 =>
      transpose KernelIdeal.S3072x768 [1, 0] w KernelIdeal.Gen.transposes_S768x3072_S3072x768_1_0) e14)
    (congrArg (fun b : FVec Ideal KernelIdeal.S768 .f32 => shapeCast KernelIdeal.S1x768 b KernelIdeal.Gen.shapeCasts_S768_S1x768) e15)

/-- Equal arrays and orders keep equal entries. -/
theorem take180_congr {a a' : IVec KernelIdeal.S32x256 32} {i i' : IVec KernelIdeal.S32x256 32} (h0 : a = a') (h1 : i = i') :
    KernelIdeal.Host.take180 a (KernelIdeal.Host.keep i) = KernelIdeal.Host.take180 a' (KernelIdeal.Host.keep i') := by
  rw [h0, h1]
/-- Equal arrays and orders remove equal entries. -/
theorem take76_congr {a a' : IVec KernelIdeal.S32x256 32} {i i' : IVec KernelIdeal.S32x256 32} (h0 : a = a') (h1 : i = i') :
    KernelIdeal.Host.take76 a (KernelIdeal.Host.drop i) = KernelIdeal.Host.take76 a' (KernelIdeal.Host.drop i') := by
  rw [h0, h1]

end Same

end Cert.Match
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Match
public import Idealize.ShloMosaic.Adequacy
public import Idealize.ShloMosaic.Init

@[expose] public section

noncomputable section

namespace Cert.Proof

open Idealize.ShloMosaic Idealize.SL.Sem Cert.Kernel

/-- Every run of the reference ends with its arguments unchanged and its semaphores at zero. -/
theorem frame_ri [hR : Cert.ReferenceIdeal.Facts] : Cert.quiescent_ReferenceIdeal := by
  intro m ρ _
  exact (θ_run Cert.ReferenceIdeal.defs _ _).mono
    (fun r h => ⟨fun c => (h c).2.2.2.2.2.2.2, Idealize.ShloMosaic.sem_eq_zero_of_no_sems (by decide) r.2⟩)
    (Cert.ReferenceIdeal.Value.run (F := Ideal) m ρ)

/-- From memories that agree on the arguments both programs run to the same seven results, their arguments unchanged. -/
theorem alg : Cert.algebraic_KernelIdeal_ReferenceIdeal := by
  intro m g m' g' _ h
  refine ⟨_, _, _, _, _, _, _, Cert.KernelIdeal.Values.run m g,
    (θ_run Cert.ReferenceIdeal.defs _ _).mono (fun r hr c => ?_) (Cert.Match.run_ref m' g')⟩
  obtain ⟨e0, e1, e2, e3, e4, e5, e6, e7, e8, e9, e10, e11, e12, e13, e14, e15⟩ := h c
  obtain ⟨r0, r1, r2, r3, r4, r5, r6, hs⟩ := hr c
  have hQ := Cert.Match.sameQ e0 e4 e5 e6 e7
  have hX := Cert.Match.sameX e0 e8 e9 hQ
  have hM := Cert.Match.sameM hQ
  have hT := Cert.Match.sameT hM
  have hS := Cert.Match.sameS hM
  exact ⟨r0.trans (Cert.Match.sameO e10 e11 e12 e13 e14 e15 hX hM), r1.trans e1,
    r2.trans (Cert.Match.take180_congr e2 hT), r3.trans (Cert.Match.take180_congr e3 hS),
    r4.trans (Cert.Match.take76_congr e2 hT), r5.trans (Cert.Match.take76_congr e3 hS),
    r6.trans (congrArg Cert.KernelIdeal.Region0.arrP hQ), hs⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ri, trivial, alg⟩

end Cert.Proof

end
